-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x2432 : Shape := ⟨3, ![3, 512, 2432]⟩
abbrev S9728x2432 : Shape := ⟨2, ![9728, 2432]⟩
abbrev S9728 : Shape := ⟨1, ![9728]⟩
abbrev S1536x2432 : Shape := ⟨2, ![1536, 2432]⟩
abbrev S192x8x9728 : Shape := ⟨3, ![192, 8, 9728]⟩
abbrev S3x1x512 : Shape := ⟨3, ![3, 1, 512]⟩
abbrev S512x2432 : Shape := ⟨2, ![512, 2432]⟩
abbrev S192x8x512 : Shape := ⟨3, ![192, 8, 512]⟩
abbrev S1536x128 : Shape := ⟨2, ![1536, 128]⟩
abbrev S256x2432 : Shape := ⟨2, ![256, 2432]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩
abbrev S512 : Shape := ⟨1, ![512]⟩
abbrev S1x512 : Shape := ⟨2, ![1, 512]⟩
abbrev S256x512 : Shape := ⟨2, ![256, 512]⟩
abbrev S32x8x512 : Shape := ⟨3, ![32, 8, 512]⟩
abbrev S3x512x9728 : Shape := ⟨3, ![3, 512, 9728]⟩
abbrev S3x512x1 : Shape := ⟨3, ![3, 512, 1]⟩

abbrev nBuf : Space → Nat
  | .hbm => 10
  | .vmem => 9
  | .smem => 0
  | _ => 0

abbrev bufTy : (tb : Table) → Fin (tcTables nBuf tb) → BufTy
  | .hbm, ⟨0, _⟩ => ⟨S3x512x2432, .bf16⟩
  | .hbm, ⟨1, _⟩ => ⟨S9728x2432, .fp8e4m3⟩
  | .hbm, ⟨2, _⟩ => ⟨S9728, .f32⟩
  | .hbm, ⟨3, _⟩ => ⟨S1536x2432, .bf16⟩
  | .hbm, ⟨4, _⟩ => ⟨S192x8x9728, .bf16⟩
  | .hbm, ⟨5, _⟩ => ⟨S1536x2432, .fp8e4m3⟩
  | .hbm, ⟨6, _⟩ => ⟨S3x1x512, .f32⟩
  | .hbm, ⟨7, _⟩ => ⟨S3x512x9728, .bf16⟩
  | .hbm, ⟨8, _⟩ => ⟨S3x512x2432, .fp8e4m3⟩
  | .hbm, ⟨9, _⟩ => ⟨S3x512x1, .f32⟩
  | .local _ .vmem, ⟨0, _⟩ => ⟨S1536x2432, .bf16⟩
  | .local _ .vmem, ⟨1, _⟩ => ⟨S512x2432, .fp8e4m3⟩
  | .local _ .vmem, ⟨2, _⟩ => ⟨S512x2432, .fp8e4m3⟩
  | .local _ .vmem, ⟨3, _⟩ => ⟨S9728, .f32⟩
  | .local _ .vmem, ⟨4, _⟩ => ⟨S192x8x512, .bf16⟩
  | .local _ .vmem, ⟨5, _⟩ => ⟨S192x8x512, .bf16⟩
  | .local _ .vmem, ⟨6, _⟩ => ⟨S1536x2432, .fp8e4m3⟩
  | .local _ .vmem, ⟨7, _⟩ => ⟨S3x1x512, .f32⟩
  | .local _ .vmem, ⟨8, _⟩ => ⟨S1536x128, .f32⟩
  | _, _ => ⟨S3x512x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![19], ![false]⟩

def k0_off1 (i : grid0.Coords) : Fin 1 → Nat :=
  let arg0 : BitVec 32 := BitVec.ofNat 32 (i 0).val
  let c512_i32 : BitVec 32 := 512#32
  let v3 : BitVec 32 := Scalar.muli arg0 c512_i32
  let v4 : Index := Scalar.indexCast v3
  ![v4.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1536x2432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2432 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x2432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S3x512x2432 : Shape := ⟨3, ![3, 512, 2432]⟩
abbrev S9728x2432 : Shape := ⟨2, ![9728, 2432]⟩
abbrev S9728 : Shape := ⟨1, ![9728]⟩
abbrev S1536x2432 : Shape := ⟨2, ![1536, 2432]⟩
abbrev S1536x9728 : Shape := ⟨2, ![1536, 9728]⟩
abbrev S1536x1 : Shape := ⟨2, ![1536, 1]⟩
abbrev S1536 : Shape := ⟨1, ![1536]⟩
abbrev S1x254 : Shape := ⟨2, ![1, 254]⟩
abbrev S1536x254 : Shape := ⟨2, ![1536, 254]⟩
abbrev S1x9728 : Shape := ⟨2, ![1, 9728]⟩
abbrev S3x512x9728 : Shape := ⟨3, ![3, 512, 9728]⟩
abbrev S3x512x1 : Shape := ⟨3, ![3, 512, 1]⟩

abbrev nBuf : Space → Nat
  | .hbm => 10
  | .vmem => 6
  | .smem => 0
  | _ => 0

abbrev bufTy : (tb : Table) → Fin (tcTables nBuf tb) → BufTy
  | .hbm, ⟨0, _⟩ => ⟨S3x512x2432, .bf16⟩
  | .hbm, ⟨1, _⟩ => ⟨S9728x2432, .fp8e4m3⟩
  | .hbm, ⟨2, _⟩ => ⟨S9728, .f32⟩
  | .hbm, ⟨3, _⟩ => ⟨S1536x2432, .bf16⟩
  | .hbm, ⟨4, _⟩ => ⟨S1536x9728, .bf16⟩
  | .hbm, ⟨5, _⟩ => ⟨S1536x2432, .fp8e4m3⟩
  | .hbm, ⟨6, _⟩ => ⟨S1536x1, .f32⟩
  | .hbm, ⟨7, _⟩ => ⟨S3x512x9728, .bf16⟩
  | .hbm, ⟨8, _⟩ => ⟨S3x512x2432, .fp8e4m3⟩
  | .hbm, ⟨9, _⟩ => ⟨S3x512x1, .f32⟩
  | .local _ .vmem, ⟨0, _⟩ => ⟨S1536x2432, .bf16⟩
  | .local _ .vmem, ⟨1, _⟩ => ⟨S9728x2432, .fp8e4m3⟩
  | .local _ .vmem, ⟨2, _⟩ => ⟨S9728, .f32⟩
  | .local _ .vmem, ⟨3, _⟩ => ⟨S1536x9728, .bf16⟩
  | .local _ .vmem, ⟨4, _⟩ => ⟨S1536x2432, .fp8e4m3⟩
  | .local _ .vmem, ⟨5, _⟩ => ⟨S1536x1, .f32⟩
  | _, _ => ⟨S3x512x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x2432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9728x2432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x9728 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
module

public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Claim

@[expose] public section

-- membership in a rectangle of production extents (`View.cover_of_tiled`): the elaborator's structural look
-- recurses once per coordinate of the long axes
set_option maxRecDepth 16384

noncomputable section

/-! The frame of the kernel as printed: every execution ends, with the arguments unchanged and every semaphore at zero.
    Nothing is said here of what the outputs hold. -/

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v2, main_v3, main_v4}
/-- The host's lines after the region write only those. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [cond0_0, k0_cond1, e0]
    word_cmp
   : ∀ t : Fin grid0.N, cond0_0 (grid0.coords t) ↔ t.val % 19 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2432 .bf16 := win0_0.stage (cfg0.slots t 0)
/-- It is whole. -/
abbrev hs0_0 (t : Fin cfg0.N) : (ms0_0 t).IsWhole := hstage0_0 ((cfg0.slots t 0).cast nbuf0_0)
/-- Window 1 likewise. -/
abbrev ms0_1 (t : Fin cfg0.N) : Memref sig .tc .vmem S512x2432 .fp8e4m3 := win0_1.stage (cfg0.slots t 1)
/-- It is whole. -/
abbrev hs0_1 (t : Fin cfg0.N) : (ms0_1 t).IsWhole := hstage0_1 ((cfg0.slots t 1).cast nbuf0_1)
/-- Window 2 likewise. -/
abbrev ms0_2 (t : Fin cfg0.N) : Memref sig .tc .vmem S9728 .f32 := win0_2.stage (cfg0.slots t 2)
/-- It is whole. -/
abbrev hs0_2 (t : Fin cfg0.N) : (ms0_2 t).IsWhole := hstage0_2 ((cfg0.slots t 2).cast nbuf0_2)
/-- Window 3 likewise. -/
abbrev ms0_3 (t : Fin cfg0.N) : Memref sig .tc .vmem S192x8x512 .bf16 := win0_3.stage (cfg0.slots t 3)
/-- It is whole. -/
abbrev hs0_3 (t : Fin cfg0.N) : (ms0_3 t).IsWhole := hstage0_3 ((cfg0.slots t 3).cast nbuf0_3)
/-- Window 4 likewise. -/
abbrev ms0_4 (t : Fin cfg0.N) : Memref sig .tc .vmem S1536x2432 .fp8e4m3 := win0_4.stage (cfg0.slots t 4)
/-- It is whole. -/
abbrev hs0_4 (t : Fin cfg0.N) : (ms0_4 t).IsWhole := hstage0_4 ((cfg0.slots t 4).cast nbuf0_4)
/-- Window 5 likewise. -/
abbrev ms0_5 (t : Fin cfg0.N) : Memref sig .tc .vmem S3x1x512 .f32 := win0_5.stage (cfg0.slots t 5)
/-- It is whole. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple IN CASE A (`scf.if` 0 taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1536x2432 .bf16) (harg1 : arg1.IsWhole) (arg2 : Memref sig .tc .vmem S512x2432 .fp8e4m3) (harg2 : arg2.IsWhole) (arg3 : Memref sig .tc .vmem S9728 .f32) (harg3 : arg3.IsWhole) (arg4 : Memref sig .tc .vmem S192x8x512 .bf16) (harg4 : arg4.IsWhole) (arg5 : Memref sig .tc .vmem S1536x2432 .fp8e4m3) (harg5 : arg5.IsWhole) (arg6 : Memref sig .tc .vmem S3x1x512 .f32) (harg6 : arg6.IsWhole) (arg7 : Memref sig .tc .vmem S1536x128 .f32) (harg7 : arg7.IsWhole) (hc0 : cond0_0 i)
    (x0 : Vec F S1536x2432 .bf16) (x1 : Vec F S512x2432 .fp8e4m3) (x2 : Vec F S9728 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

-- (the run's proof term is large: checking it walks past the default budget)
set_option maxHeartbeats 1000000 in
/-- The body's triple IN CASE B (`scf.if` 0 not taken: points 1, 2, … 18: 18 of 19): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1536x2432 .bf16) (harg1 : arg1.IsWhole) (arg2 : Memref sig .tc .vmem S512x2432 .fp8e4m3) (harg2 : arg2.IsWhole) (arg3 : Memref sig .tc .vmem S9728 .f32) (harg3 : arg3.IsWhole) (arg4 : Memref sig .tc .vmem S192x8x512 .bf16) (harg4 : arg4.IsWhole) (arg5 : Memref sig .tc .vmem S1536x2432 .fp8e4m3) (harg5 : arg5.IsWhole) (arg6 : Memref sig .tc .vmem S3x1x512 .f32) (harg6 : arg6.IsWhole) (arg7 : Memref sig .tc .vmem S1536x128 .f32) (harg7 : arg7.IsWhole) (hc0 : ¬cond0_0 i)
    (x0 : Vec F S1536x2432 .bf16) (x1 : Vec F S512x2432 .fp8e4m3) (x2 : Vec F S9728 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part17_eq_skeleton, k0_part18_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Window 1 likewise. -/
theorem after0_1 (c : Dev nD) (t : Fin cfg0.N) : (dats m 0 c).after 1 t = iblk m c 1 t := by dsimp only [dats]
/-- Window 2 likewise. -/
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 likewise. -/
theorem before0_1 (c : Dev nD) (t : Fin cfg0.N) (d) : (dats m 0 c).before 1 t d = iblk m c 1 t :=
  before0_1_of m (dats m 0 c) (A_eq m c 1) (after0_1 m c) t d
/-- Window 2 likewise. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 19 := lt_of_lt_of_eq t.isLt (show cfg0.N = 19 from N_0)
  by_cases h0 : t.val % 19 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Own

end
-- ==== Proof.Chunks.lean ====
/-
  The six row chunks of the kernel body compute one function. The body is unrolled over six chunks of 256 rows, and its
  operations are cut into parts at different places in each chunk; here the six spellings are shown to be that of the
  first chunk (`codesK`, `colK`, `rowK` for what the quantising steps store, `yK` for what the product steps store).
-/
module

public import proofs.«01_k».proof.Proof.Gen.KernelIdeal.Skeleton

@[expose] public section

set_option maxRecDepth 16384

noncomputable section

namespace Cert.KernelIdeal.Chunks

open Cert.KernelIdeal Cert.KernelIdeal.Gen
open Idealize.ShloMosaic Idealize.ShloMosaic.TcCoe

variable {F : FTy → Type} [FloatOps F]

/-- The exponent the kernel computes for each row of a chunk. -/
def exK (v : Vec F S256x2432 .bf16) : IVec S256x1 32 := k0_pay7 (k0_pay4 v) (k0_pay5 v) (k0_pay6 v) 4#32
/-- The scale of each row of a chunk, a column. -/
def sclK (v : Vec F S256x2432 .bf16) : FVec F S256x1 .f32 := k0_pay8 (k0_pay4 v) (k0_pay5 v) (k0_pay6 v) 4#32
/-- The codes of a chunk. -/
def codesK (v : Vec F S256x2432 .bf16) : FVec F S256x2432 .fp8e4m3 := k0_pay10 (k0_pay3 v) (exK v) k0_pay9
/-- The scale column of a chunk, along 128 lanes. -/
def colK (v : Vec F S256x2432 .bf16) : FVec F S256x128 .f32 := k0_pay12 (sclK v)
/-- The scales of a chunk, a row. -/
def rowK (v : Vec F S256x2432 .bf16) : FVec F S1x1x256 .f32 := k0_pay13 (sclK v)
/-- The block of the result from a chunk of codes, a block of the weights, the chunk's scale columns, and the scales of
    the weights. -/
def yK (ws : Vec F S512 .f32) (q : Vec F S256x2432 .fp8e4m3) (w : Vec F S512x2432 .fp8e4m3) (s : Vec F S256x128 .f32) :
    FVec F S32x8x512 .bf16 := k0_pay84 ws q w s

/-- Chunk 1: its codes payload is the first chunk's. -/
theorem codes1 (v : Vec F S256x2432 .bf16) : k0_pay25 (k0_pay24 (k0_pay14 v) (k0_pay15 v) (k0_pay16 v) (k0_pay19 (k0_pay16 v) k0_pay17 k0_pay18) (k0_pay20 (k0_pay16 v) k0_pay17 k0_pay18) (k0_pay21 (k0_pay16 v) k0_pay17 k0_pay18)) = codesK v := rfl
/-- Chunk 1: its col payload is the first chunk's. -/
theorem col1 (v : Vec F S256x2432 .bf16) : k0_pay27 (k0_pay23 (k0_pay15 v) (k0_pay16 v) (k0_pay19 (k0_pay16 v) k0_pay17 k0_pay18) (k0_pay20 (k0_pay16 v) k0_pay17 k0_pay18) (k0_pay21 (k0_pay16 v) k0_pay17 k0_pay18)) = colK v := rfl
/-- Chunk 1: its row payload is the first chunk's. -/
theorem row1 (v : Vec F S256x2432 .bf16) : k0_pay28 (k0_pay23 (k0_pay15 v) (k0_pay16 v) (k0_pay19 (k0_pay16 v) k0_pay17 k0_pay18) (k0_pay20 (k0_pay16 v) k0_pay17 k0_pay18) (k0_pay21 (k0_pay16 v) k0_pay17 k0_pay18)) = rowK v := rfl
/-- Chunk 2: its codes payload is the first chunk's. -/
theorem codes2 (v : Vec F S256x2432 .bf16) : k0_pay37 (k0_pay29 v) (k0_pay30 v) (k0_pay33 (k0_pay31 v) (k0_pay32 v)) (k0_pay34 (k0_pay31 v) (k0_pay32 v)) (k0_pay35 (k0_pay31 v) (k0_pay32 v)) = codesK v := rfl
/-- Chunk 2: its col payload is the first chunk's. -/
theorem col2 (v : Vec F S256x2432 .bf16) : k0_pay39 (k0_pay38 (k0_pay30 v) (k0_pay33 (k0_pay31 v) (k0_pay32 v)) (k0_pay34 (k0_pay31 v) (k0_pay32 v)) (k0_pay35 (k0_pay31 v) (k0_pay32 v))) = colK v := rfl
/-- Chunk 2: its row payload is the first chunk's. -/
theorem row2 (v : Vec F S256x2432 .bf16) : k0_pay40 (k0_pay38 (k0_pay30 v) (k0_pay33 (k0_pay31 v) (k0_pay32 v)) (k0_pay34 (k0_pay31 v) (k0_pay32 v)) (k0_pay35 (k0_pay31 v) (k0_pay32 v))) = rowK v := rfl
/-- Chunk 3: its codes payload is the first chunk's. -/
theorem codes3 (v : Vec F S256x2432 .bf16) : k0_pay49 (k0_pay41 v) (k0_pay47 (k0_pay42 v) (k0_pay43 v) (k0_pay44 v) (k0_pay45 v) (k0_pay46 v)) = codesK v := rfl
/-- Chunk 3: its col payload is the first chunk's. -/
theorem col3 (v : Vec F S256x2432 .bf16) : k0_pay51 (F := F) (k0_pay47 (k0_pay42 v) (k0_pay43 v) (k0_pay44 v) (k0_pay45 v) (k0_pay46 v)) 128#32 k0_pay48 = colK v := rfl
/-- Chunk 3: its row payload is the first chunk's. -/
theorem row3 (v : Vec F S256x2432 .bf16) : k0_pay52 (F := F) (k0_pay47 (k0_pay42 v) (k0_pay43 v) (k0_pay44 v) (k0_pay45 v) (k0_pay46 v)) 128#32 k0_pay48 = rowK v := rfl
/-- Chunk 4: its codes payload is the first chunk's. -/
theorem codes4 (v : Vec F S256x2432 .bf16) : k0_pay64 (k0_pay54 (k0_pay53 v)) (k0_pay62 (k0_pay55 (k0_pay53 v)) (k0_pay56 (k0_pay53 v)) (k0_pay57 (k0_pay53 v)) (k0_pay58 (k0_pay53 v)) k0_pay59) 128#32 k0_pay63 = codesK v := rfl
/-- Chunk 4: its col payload is the first chunk's. -/
theorem col4 (v : Vec F S256x2432 .bf16) : k0_pay66 (k0_pay61 (k0_pay55 (k0_pay53 v)) (k0_pay56 (k0_pay53 v)) (k0_pay57 (k0_pay53 v)) (k0_pay58 (k0_pay53 v)) k0_pay59) = colK v := rfl
/-- Chunk 4: its row payload is the first chunk's. -/
theorem row4 (v : Vec F S256x2432 .bf16) : k0_pay67 (k0_pay61 (k0_pay55 (k0_pay53 v)) (k0_pay56 (k0_pay53 v)) (k0_pay57 (k0_pay53 v)) (k0_pay58 (k0_pay53 v)) k0_pay59) = rowK v := rfl
/-- Chunk 5: its codes payload is the first chunk's. -/
theorem codes5 (v : Vec F S256x2432 .bf16) : k0_pay79 (Scalar.ofBits .f32 0x43E00000#32) (k0_pay78 (k0_pay68 v) (k0_pay69 v) (k0_pay70 v) (k0_pay74 (k0_pay70 v) k0_pay71 k0_pay72 k0_pay73) (k0_pay75 (k0_pay70 v) k0_pay71 k0_pay72 k0_pay73)) = codesK v := rfl
/-- Chunk 5: its col payload is the first chunk's. -/
theorem col5 (v : Vec F S256x2432 .bf16) : k0_pay81 (k0_pay77 (k0_pay69 v) (k0_pay70 v) (k0_pay74 (k0_pay70 v) k0_pay71 k0_pay72 k0_pay73) (k0_pay75 (k0_pay70 v) k0_pay71 k0_pay72 k0_pay73)) = colK v := rfl
/-- Chunk 5: its row payload is the first chunk's. -/
theorem row5 (v : Vec F S256x2432 .bf16) : k0_pay82 (k0_pay77 (k0_pay69 v) (k0_pay70 v) (k0_pay74 (k0_pay70 v) k0_pay71 k0_pay72 k0_pay73) (k0_pay75 (k0_pay70 v) k0_pay71 k0_pay72 k0_pay73)) = rowK v := rfl
/-- Chunk 1: its result payload is the first chunk's. -/
theorem y1 (ws : Vec F S512 .f32) (q : Vec F S256x2432 .fp8e4m3) (w : Vec F S512x2432 .fp8e4m3) (s : Vec F S256x128 .f32) :
    k0_pay85 ws q w s = yK ws q w s := rfl
/-- Chunk 2: its result payload is the first chunk's. -/
theorem y2 (ws : Vec F S512 .f32) (q : Vec F S256x2432 .fp8e4m3) (w : Vec F S512x2432 .fp8e4m3) (s : Vec F S256x128 .f32) :
    k0_pay86 (k0_pay83 ws) q w s = yK ws q w s := rfl
/-- Chunk 3: its result payload is the first chunk's. -/
theorem y3 (ws : Vec F S512 .f32) (q : Vec F S256x2432 .fp8e4m3) (w : Vec F S512x2432 .fp8e4m3) (s : Vec F S256x128 .f32) :
    k0_pay87 (k0_pay83 ws) q w s = yK ws q w s := rfl
/-- Chunk 4: its result payload is the first chunk's. -/
theorem y4 (ws : Vec F S512 .f32) (q : Vec F S256x2432 .fp8e4m3) (w : Vec F S512x2432 .fp8e4m3) (s : Vec F S256x128 .f32) :
    k0_pay1 (k0_pay88 (k0_pay83 ws) q w s) = yK ws q w s := rfl
/-- Chunk 5: its result payload is the first chunk's. -/
theorem y5 (ws : Vec F S512 .f32) (q : Vec F S256x2432 .fp8e4m3) (w : Vec F S512x2432 .fp8e4m3) (s : Vec F S256x128 .f32) :
    k0_pay2 (k0_pay83 ws) q w s = yK ws q w s := rfl

end Cert.KernelIdeal.Chunks

end
-- ==== Proof.Blocks.lean ====
module

public import proofs.«01_k».proof.Proof.Chunks
public import Idealize.ShloMosaic.Lib.Pointwise
public import Idealize.ShloMosaic.Lib.Writes
public import Idealize.ShloMosaic.Lib.Ring
public import Idealize.ShloMosaic.Lib.Pipeline.ValueKit.Tiles
public import Idealize.ShloMosaic.Lib.Pipeline.ValueKit.Geometry

@[expose] public section

set_option maxRecDepth 16384

noncomputable section

/-! What the kernel's buffers hold as whole arrays, in terms of the first chunk's payloads: the six chunks of 256 rows
    are one function of the row. Each chunk's store agrees with the whole array at the chunk's rows. -/

namespace Cert.KernelIdeal.Blocks

open Cert.KernelIdeal Cert.KernelIdeal.Gen Cert.KernelIdeal.Chunks
open Idealize.ShloMosaic Idealize.ShloMosaic.TcCoe

variable {F : FTy → Type} [FloatOps F]

/-- Chunk `j` of an array of 1536 rows of 2432. -/
def rowsAt {e : EltTy} (x : Vec F S1536x2432 e) (j : Fin 6) : Vec F S256x2432 e := fun y =>
  x (ix2 ⟨256 * j.val + (y 0).val, by have h : (y 0).val < 256 := (y 0).isLt; omega⟩ (y 1))

/-- Chunk `j` of an array of 1536 rows of 128. -/
def colsAt {e : EltTy} (x : Vec F S1536x128 e) (j : Fin 6) : Vec F S256x128 e := fun y =>
  x (ix2 ⟨256 * j.val + (y 0).val, by have h : (y 0).val < 256 := (y 0).isLt; omega⟩ (y 1))

/-- The codes of all rows. -/
def CODES (x : Vec F S1536x2432 .bf16) : Vec F S1536x2432 .fp8e4m3 := fun y =>
  codesK (rowsAt x ⟨(y 0).val / 256, by have h : (y 0).val < 1536 := (y 0).isLt; omega⟩) (ix2 ⟨(y 0).val % 256, Nat.mod_lt _ (by norm_num)⟩ (y 1))

/-- The scales of all rows, along 128 lanes. -/
def SCOL (x : Vec F S1536x2432 .bf16) : Vec F S1536x128 .f32 := fun y =>
  colK (rowsAt x ⟨(y 0).val / 256, by have h : (y 0).val < 1536 := (y 0).isLt; omega⟩) (ix2 ⟨(y 0).val % 256, Nat.mod_lt _ (by norm_num)⟩ (y 1))

/-- The scales of all rows, as three rows of 512. -/
def SCALE (x : Vec F S1536x2432 .bf16) : Vec F S3x1x512 .f32 := fun y =>
  rowK (rowsAt x ⟨2 * (y 0).val + (y 2).val / 256, by
      have h : (y 0).val < 3 := (y 0).isLt
      have h' : (y 2).val < 512 := (y 2).isLt
      omega⟩) (ix3 0 0 ⟨(y 2).val % 256, Nat.mod_lt _ (by norm_num)⟩)

/-- The block of the result that one grid point computes. -/
def YB (ws : Vec F S512 .f32) (q : Vec F S1536x2432 .fp8e4m3) (w : Vec F S512x2432 .fp8e4m3) (s : Vec F S1536x128 .f32) :
    Vec F S192x8x512 .bf16 := fun y =>
  yK ws (rowsAt q ⟨(y 0).val / 32, by have h : (y 0).val < 192 := (y 0).isLt; omega⟩) w
    (colsAt s ⟨(y 0).val / 32, by have h : (y 0).val < 192 := (y 0).isLt; omega⟩) (ix3 ⟨(y 0).val % 32, Nat.mod_lt _ (by norm_num)⟩ (y 1) (y 2))

/-- Row `a` of chunk `j` lies in chunk `j`, -/
theorem chunk_div (n : ℕ) {m : ℕ} (j : Fin m) (a : Fin n) (h : (n * j.val + a.val) / n < m) :
    (⟨(n * j.val + a.val) / n, h⟩ : Fin m) = j :=
  Fin.ext (by
    have hn : 0 < n := lt_of_le_of_lt (Nat.zero_le _) a.isLt
    show (n * j.val + a.val) / n = j.val
    rw [Nat.mul_add_div hn, Nat.div_eq_of_lt a.isLt, Nat.add_zero])

/-- and is row `a` there. -/
theorem chunk_mod (n : ℕ) {m : ℕ} (j : Fin m) (a : Fin n) (h : (n * j.val + a.val) % n < n) :
    (⟨(n * j.val + a.val) % n, h⟩ : Fin n) = a :=
  Fin.ext (by
    show (n * j.val + a.val) % n = a.val
    rw [Nat.mul_add_mod, Nat.mod_eq_of_lt a.isLt])

/-- A load of 256 rows is a chunk. -/
theorem ld_rows {e : EltTy} (x : Vec F S1536x2432 e) (j : Fin 6) (inb) :
    View.ld (Val := Elt F) x (Rect.unit (s := S1536x2432) ![256 * j.val, 0] S256x2432.size inb) = rowsAt x j := by
  funext y
  rw [View.ld_apply]
  refine congrArg x (funext fun a => Fin.ext ?_)
  rw [Rect.idx_unit_val]
  fin_cases a
  · rfl
  · exact Nat.zero_add _

/-- A load of 256 rows of scales is a chunk. -/
theorem ld_cols {e : EltTy} (x : Vec F S1536x128 e) (j : Fin 6) (inb) :
    View.ld (Val := Elt F) x (Rect.unit (s := S1536x128) ![256 * j.val, 0] S256x128.size inb) = colsAt x j := by
  funext y
  rw [View.ld_apply]
  refine congrArg x (funext fun a => Fin.ext ?_)
  rw [Rect.idx_unit_val]
  fin_cases a
  · rfl
  · exact Nat.zero_add _

/-- Chunk `j`'s store of codes agrees with the codes of all rows. -/
theorem codes_piece (x : Vec F S1536x2432 .bf16) (j : Fin 6) (inb) (z : S256x2432.Idx) :
    codesK (rowsAt x j) z = CODES x ((Rect.unit (s := S1536x2432) ![256 * j.val, 0] S256x2432.size inb).emb z) := by
  obtain ⟨a, b, rfl⟩ : ∃ (a : Fin 256) (b : Fin 2432), z = ix2 a b := ⟨z 0, z 1, eq_ix2 z⟩
  have e : (Rect.unit (s := S1536x2432) ![256 * j.val, 0] S256x2432.size inb).emb (ix2 a b)
      = ix2 ⟨256 * j.val + a.val, by omega⟩ b := by
    refine funext fun k => Fin.ext ?_
    rw [ValueKit.rect_emb_unit_val]
    fin_cases k
    · rfl
    · exact Nat.zero_add _
  rw [e]
  exact congrArg₂ (fun p q => codesK (rowsAt x p) (ix2 q b)) (chunk_div 256 j a (by omega)).symm
    (chunk_mod 256 j a (by omega)).symm

/-- Chunk `j`'s store of scale columns agrees with those of all rows. -/
theorem col_piece (x : Vec F S1536x2432 .bf16) (j : Fin 6) (inb) (z : S256x128.Idx) :
    colK (rowsAt x j) z = SCOL x ((Rect.unit (s := S1536x128) ![256 * j.val, 0] S256x128.size inb).emb z) := by
  obtain ⟨a, b, rfl⟩ : ∃ (a : Fin 256) (b : Fin 128), z = ix2 a b := ⟨z 0, z 1, eq_ix2 z⟩
  have e : (Rect.unit (s := S1536x128) ![256 * j.val, 0] S256x128.size inb).emb (ix2 a b)
      = ix2 ⟨256 * j.val + a.val, by omega⟩ b := by
    refine funext fun k => Fin.ext ?_
    rw [ValueKit.rect_emb_unit_val]
    fin_cases k
    · rfl
    · exact Nat.zero_add _
  rw [e]
  exact congrArg₂ (fun p q => colK (rowsAt x p) (ix2 q b)) (chunk_div 256 j a (by omega)).symm
    (chunk_mod 256 j a (by omega)).symm

/-- Chunk `2 p + h`'s store of scale rows agrees with those of all rows. -/
theorem row_piece (x : Vec F S1536x2432 .bf16) (p : Fin 3) (h : Fin 2) (inb) (z : S1x1x256.Idx) :
    rowK (rowsAt x ⟨2 * p.val + h.val, by omega⟩) z
      = SCALE x ((Rect.unit (s := S3x1x512) ![p.val, 0, 256 * h.val] S1x1x256.size inb).emb z) := by
  obtain ⟨a, b, c, rfl⟩ : ∃ (a : Fin 1) (b : Fin 1) (c : Fin 256), z = ix3 a b c := ⟨z 0, z 1, z 2, eq_ix3 z⟩
  obtain rfl : a = 0 := Subsingleton.elim _ _
  obtain rfl : b = 0 := Subsingleton.elim _ _
  have e : (Rect.unit (s := S3x1x512) ![p.val, 0, 256 * h.val] S1x1x256.size inb).emb (ix3 0 0 c)
      = ix3 p 0 ⟨256 * h.val + c.val, by omega⟩ := by
    refine funext fun k => Fin.ext ?_
    rw [ValueKit.rect_emb_unit_val]
    fin_cases k
    · rfl
    · rfl
    · rfl
  rw [e]
  have e1 : (⟨2 * p.val + (256 * h.val + c.val) / 256, by omega⟩ : Fin 6) = ⟨2 * p.val + h.val, by omega⟩ :=
    Fin.ext (by show 2 * p.val + (256 * h.val + c.val) / 256 = 2 * p.val + h.val; omega)
  exact congrArg₂ (fun p q => rowK (rowsAt x p) (ix3 0 0 q)) e1.symm (chunk_mod 256 h c (by omega)).symm

/-- Chunk `j`'s store of the result agrees with the whole block. -/
theorem y_piece (ws : Vec F S512 .f32) (q : Vec F S1536x2432 .fp8e4m3) (w : Vec F S512x2432 .fp8e4m3) (s : Vec F S1536x128 .f32)
    (j : Fin 6) (inb) (z : S32x8x512.Idx) :
    yK ws (rowsAt q j) w (colsAt s j) z
      = YB ws q w s ((Rect.unit (s := S192x8x512) ![32 * j.val, 0, 0] S32x8x512.size inb).emb z) := by
  obtain ⟨a, b, c, rfl⟩ : ∃ (a : Fin 32) (b : Fin 8) (c : Fin 512), z = ix3 a b c := ⟨z 0, z 1, z 2, eq_ix3 z⟩
  have e : (Rect.unit (s := S192x8x512) ![32 * j.val, 0, 0] S32x8x512.size inb).emb (ix3 a b c)
      = ix3 ⟨32 * j.val + a.val, by omega⟩ b c := by
    refine funext fun k => Fin.ext ?_
    rw [ValueKit.rect_emb_unit_val]
    fin_cases k
    · rfl
    · exact Nat.zero_add _
    · exact Nat.zero_add _
  rw [e]
  exact congrArg₂ (fun p r => yK ws (rowsAt q p) w (colsAt s p) (ix3 r b c)) (chunk_div 32 j a (by omega)).symm
    (chunk_mod 32 j a (by omega)).symm

end Cert.KernelIdeal.Blocks

end
-- ==== Proof.Run.lean ====
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Blocks
public import Idealize.ShloMosaic.Lib.Claim

@[expose] public section

set_option maxRecDepth 16384

noncomputable section

/-! One run of the kernel body, with what it leaves in each buffer. -/

namespace Cert.KernelIdeal.Own

open Cert.KernelIdeal Cert.KernelIdeal.Gen Cert.KernelIdeal.Chunks Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [cond0_0, k0_cond1, e0]
    word_cmp
   : ∀ t : Fin grid0.N, cond0_0 (grid0.coords t) ↔ t.val % 19 = 0)

/-- The scales of the weights that grid point `i` uses. -/
def wsAt (x2 : Vec F S9728 .f32) (i : grid0.Coords) : Vec F S512 .f32 :=
  View.ld x2 (Rect.unit (s := S9728) (k0_off1 i) S512.size (k0_off1_inb i))

/-- A load of 256 rows from a whole buffer is a chunk. -/
theorem rows_load {e : EltTy} (arg : Memref sig .tc .vmem S1536x2432 e) (h : arg.IsWhole) (x : Vec F S1536x2432 e) (j : Fin 6) (inb) :
    View.readAt (Elt F) arg.view (Rect.unit (s := S1536x2432) ![256 * j.val, 0] S256x2432.size inb).toLoadRect (h.unread x)
      = rowsAt x j := by
  rw [View.readAt_eq_ld, h.read_unread]; exact ld_rows x j inb

/-- A load of 256 rows of scales from a whole buffer is a chunk. -/
theorem cols_load {e : EltTy} (arg : Memref sig .tc .vmem S1536x128 e) (h : arg.IsWhole) (x : Vec F S1536x128 e) (j : Fin 6) (inb) :
    View.readAt (Elt F) arg.view (Rect.unit (s := S1536x128) ![256 * j.val, 0] S256x128.size inb).toLoadRect (h.unread x)
      = colsAt x j := by
  rw [View.readAt_eq_ld, h.read_unread]; exact ld_cols x j inb

/-- A load of the whole block of weights. -/
theorem w_load (arg : Memref sig .tc .vmem S512x2432 .fp8e4m3) (h : arg.IsWhole) (x : Vec F S512x2432 .fp8e4m3) (inb) :
    View.readAt (Elt F) arg.view (Rect.unit (s := S512x2432) ![0, 0] S512x2432.size inb).toLoadRect (h.unread x) = x := by
  rw [View.readAt_eq_ld, h.read_unread]
  exact View.ld_unit_zero (by funext a; fin_cases a <;> rfl) inb x

/-- The load of the weights' scales. -/
theorem ws_load (arg : Memref sig .tc .vmem S9728 .f32) (h : arg.IsWhole) (x : Vec F S9728 .f32) (i : grid0.Coords) (inb) :
    View.readAt (Elt F) arg.view (Rect.unit (s := S9728) (k0_off1 i) S512.size inb).toLoadRect (h.unread x) = wsAt x i := by
  rw [View.readAt_eq_ld, h.read_unread]; rfl

/-- A store of a chunk of the result, whichever spelling of the payload, agrees with the whole block. -/
theorem pieceY {f : Vec F S512 .f32 → Vec F S256x2432 .fp8e4m3 → Vec F S512x2432 .fp8e4m3 → Vec F S256x128 .f32 → FVec F S32x8x512 .bf16}
    (hf : ∀ ws q w s, f ws q w s = yK ws q w s) {ws : Vec F S512 .f32} {q : Vec F S1536x2432 .fp8e4m3} {w : Vec F S512x2432 .fp8e4m3}
    {s : Vec F S1536x128 .f32} (j : Fin 6) {A B C D} (hA : A = ws) (hB : B = rowsAt q j) (hC : C = w) (hD : D = colsAt s j) (inb)
    (z : S32x8x512.Idx) :
    f A B C D z = YB ws q w s ((Rect.unit (s := S192x8x512) ![32 * j.val, 0, 0] S32x8x512.size inb).emb z) := by
  subst hA hB hC hD
  rw [hf]; exact y_piece _ _ _ _ j inb z

/-- The six stores of codes leave the codes of all rows. -/
theorem codes_read {m : Memref sig .tc .vmem S1536x2432 .fp8e4m3} (f : m.view.ty.Contents (Elt F)) (x : Vec F S1536x2432 .bf16)
    {P5 P4 P3 P2 P1 P0 : Vec F S256x2432 .fp8e4m3} (h5 : P5 = codesK (rowsAt x 5)) (h4 : P4 = codesK (rowsAt x 4)) (h3 : P3 = codesK (rowsAt x 3)) (h2 : P2 = codesK (rowsAt x 2)) (h1 : P1 = codesK (rowsAt x 1)) (h0 : P0 = codesK (rowsAt x 0)) :
    m.view.read (Elt F) (m.view.writes (Elt F) f
      [⟨Rect.unit (s := S1536x2432) ![1280, 0] S256x2432.size inb_S1536x2432_S256x2432_1280_0, P5⟩,
      ⟨Rect.unit (s := S1536x2432) ![1024, 0] S256x2432.size inb_S1536x2432_S256x2432_1024_0, P4⟩,
      ⟨Rect.unit (s := S1536x2432) ![768, 0] S256x2432.size inb_S1536x2432_S256x2432_768_0, P3⟩,
      ⟨Rect.unit (s := S1536x2432) ![512, 0] S256x2432.size inb_S1536x2432_S256x2432_512_0, P2⟩,
      ⟨Rect.unit (s := S1536x2432) ![256, 0] S256x2432.size inb_S1536x2432_S256x2432_256_0, P1⟩,
      ⟨Rect.unit (s := S1536x2432) ![0, 0] S256x2432.size inb_S1536x2432_S256x2432_0_0, P0⟩]) = CODES x := by
  refine funext fun y => View.read_writes_apply_of_pieces _ _ (CODES x) _ ?_ y
    (View.cover_of_tiledL (s := S1536x2432) _ S256x2432.size (by sl_kernel_rfl) y)
  intro p hp z
  simp only [List.mem_cons, List.not_mem_nil, or_false] at hp
  rcases hp with rfl | rfl | rfl | rfl | rfl | rfl <;> dsimp only
  all_goals first
    | rw [h5]; exact codes_piece x 5 inb_S1536x2432_S256x2432_1280_0 z
    | rw [h4]; exact codes_piece x 4 inb_S1536x2432_S256x2432_1024_0 z
    | rw [h3]; exact codes_piece x 3 inb_S1536x2432_S256x2432_768_0 z
    | rw [h2]; exact codes_piece x 2 inb_S1536x2432_S256x2432_512_0 z
    | rw [h1]; exact codes_piece x 1 inb_S1536x2432_S256x2432_256_0 z
    | rw [h0]; exact codes_piece x 0 inb_S1536x2432_S256x2432_0_0 z

/-- The six stores of scale columns leave those of all rows. -/
theorem col_read {m : Memref sig .tc .vmem S1536x128 .f32} (f : m.view.ty.Contents (Elt F)) (x : Vec F S1536x2432 .bf16)
    {P5 P4 P3 P2 P1 P0 : Vec F S256x128 .f32} (h5 : P5 = colK (rowsAt x 5)) (h4 : P4 = colK (rowsAt x 4)) (h3 : P3 = colK (rowsAt x 3)) (h2 : P2 = colK (rowsAt x 2)) (h1 : P1 = colK (rowsAt x 1)) (h0 : P0 = colK (rowsAt x 0)) :
    m.view.read (Elt F) (m.view.writes (Elt F) f
      [⟨Rect.unit (s := S1536x128) ![1280, 0] S256x128.size inb_S1536x128_S256x128_1280_0, P5⟩,
      ⟨Rect.unit (s := S1536x128) ![1024, 0] S256x128.size inb_S1536x128_S256x128_1024_0, P4⟩,
      ⟨Rect.unit (s := S1536x128) ![768, 0] S256x128.size inb_S1536x128_S256x128_768_0, P3⟩,
      ⟨Rect.unit (s := S1536x128) ![512, 0] S256x128.size inb_S1536x128_S256x128_512_0, P2⟩,
      ⟨Rect.unit (s := S1536x128) ![256, 0] S256x128.size inb_S1536x128_S256x128_256_0, P1⟩,
      ⟨Rect.unit (s := S1536x128) ![0, 0] S256x128.size inb_S1536x128_S256x128_0_0, P0⟩]) = SCOL x := by
  refine funext fun y => View.read_writes_apply_of_pieces _ _ (SCOL x) _ ?_ y
    (View.cover_of_tiledL (s := S1536x128) _ S256x128.size (by sl_kernel_rfl) y)
  intro p hp z
  simp only [List.mem_cons, List.not_mem_nil, or_false] at hp
  rcases hp with rfl | rfl | rfl | rfl | rfl | rfl <;> dsimp only
  all_goals first
    | rw [h5]; exact col_piece x 5 inb_S1536x128_S256x128_1280_0 z
    | rw [h4]; exact col_piece x 4 inb_S1536x128_S256x128_1024_0 z
    | rw [h3]; exact col_piece x 3 inb_S1536x128_S256x128_768_0 z
    | rw [h2]; exact col_piece x 2 inb_S1536x128_S256x128_512_0 z
    | rw [h1]; exact col_piece x 1 inb_S1536x128_S256x128_256_0 z
    | rw [h0]; exact col_piece x 0 inb_S1536x128_S256x128_0_0 z

/-- The six stores of scale rows leave those of all rows. -/
theorem row_read {m : Memref sig .tc .vmem S3x1x512 .f32} (f : m.view.ty.Contents (Elt F)) (x : Vec F S1536x2432 .bf16)
    {P5 P4 P3 P2 P1 P0 : Vec F S1x1x256 .f32} (h5 : P5 = rowK (rowsAt x 5)) (h4 : P4 = rowK (rowsAt x 4)) (h3 : P3 = rowK (rowsAt x 3)) (h2 : P2 = rowK (rowsAt x 2)) (h1 : P1 = rowK (rowsAt x 1)) (h0 : P0 = rowK (rowsAt x 0)) :
    m.view.read (Elt F) (m.view.writes (Elt F) f
      [⟨Rect.unit (s := S3x1x512) ![2, 0, 256] S1x1x256.size inb_S3x1x512_S1x1x256_2_0_256, P5⟩,
      ⟨Rect.unit (s := S3x1x512) ![2, 0, 0] S1x1x256.size inb_S3x1x512_S1x1x256_2_0_0, P4⟩,
      ⟨Rect.unit (s := S3x1x512) ![1, 0, 256] S1x1x256.size inb_S3x1x512_S1x1x256_1_0_256, P3⟩,
      ⟨Rect.unit (s := S3x1x512) ![1, 0, 0] S1x1x256.size inb_S3x1x512_S1x1x256_1_0_0, P2⟩,
      ⟨Rect.unit (s := S3x1x512) ![0, 0, 256] S1x1x256.size inb_S3x1x512_S1x1x256_0_0_256, P1⟩,
      ⟨Rect.unit (s := S3x1x512) ![0, 0, 0] S1x1x256.size inb_S3x1x512_S1x1x256_0_0_0, P0⟩]) = SCALE x := by
  refine funext fun y => View.read_writes_apply_of_pieces _ _ (SCALE x) _ ?_ y
    (View.cover_of_tiledL (s := S3x1x512) _ S1x1x256.size (by sl_kernel_rfl) y)
  intro p hp z
  simp only [List.mem_cons, List.not_mem_nil, or_false] at hp
  rcases hp with rfl | rfl | rfl | rfl | rfl | rfl <;> dsimp only
  all_goals first
    | rw [h5]; exact row_piece x 2 1 inb_S3x1x512_S1x1x256_2_0_256 z
    | rw [h4]; exact row_piece x 2 0 inb_S3x1x512_S1x1x256_2_0_0 z
    | rw [h3]; exact row_piece x 1 1 inb_S3x1x512_S1x1x256_1_0_256 z
    | rw [h2]; exact row_piece x 1 0 inb_S3x1x512_S1x1x256_1_0_0 z
    | rw [h1]; exact row_piece x 0 1 inb_S3x1x512_S1x1x256_0_0_256 z
    | rw [h0]; exact row_piece x 0 0 inb_S3x1x512_S1x1x256_0_0_0 z

/-- A load of 256 rows out of a buffer just filled with `X` is a chunk of `X`. -/
theorem rows_cov {e : EltTy} (m : Memref sig .tc .vmem S1536x2432 e) {L} {X : Vec F S1536x2432 e}
    (h : m.view.read (Elt F) (m.view.writes (Elt F) m.view.junk L) = X) (j : Fin 6) (inb) :
    m.view.readCov L (Rect.unit (s := S1536x2432) ![256 * j.val, 0] S256x2432.size inb).toLoadRect = rowsAt X j := by
  subst h; exact ld_rows _ j inb

/-- A load of 256 rows of scales out of a buffer just filled with `X` is a chunk of `X`. -/
theorem cols_cov {e : EltTy} (m : Memref sig .tc .vmem S1536x128 e) {L} {X : Vec F S1536x128 e}
    (h : m.view.read (Elt F) (m.view.writes (Elt F) m.view.junk L) = X) (j : Fin 6) (inb) :
    m.view.readCov L (Rect.unit (s := S1536x128) ![256 * j.val, 0] S256x128.size inb).toLoadRect = colsAt X j := by
  subst h; exact ld_cols _ j inb

set_option maxHeartbeats 1000000 in
/-- One run of the body after the first grid point: the block of the result, from the codes and the scales as found; the
    codes and the scales stay. -/
theorem runB (c : Dev nD) (i : grid0.Coords) (arg1 : Memref sig .tc .vmem S1536x2432 .bf16) (harg1 : arg1.IsWhole) (arg2 : Memref sig .tc .vmem S512x2432 .fp8e4m3) (harg2 : arg2.IsWhole)
    (arg3 : Memref sig .tc .vmem S9728 .f32) (harg3 : arg3.IsWhole) (arg4 : Memref sig .tc .vmem S192x8x512 .bf16) (harg4 : arg4.IsWhole)
    (arg5 : Memref sig .tc .vmem S1536x2432 .fp8e4m3) (harg5 : arg5.IsWhole) (arg6 : Memref sig .tc .vmem S3x1x512 .f32) (harg6 : arg6.IsWhole)
    (arg7 : Memref sig .tc .vmem S1536x128 .f32) (harg7 : arg7.IsWhole) (hc0 : ¬cond0_0 i)
    (x0 : Vec F S1536x2432 .bf16) (x1 : Vec F S512x2432 .fp8e4m3) (x2 : Vec F S9728 .f32)
    (x4 : Vec F S1536x2432 .fp8e4m3) (x5 : Vec F S3x1x512 .f32) (xs : Vec F S1536x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare (YB (wsAt x2 i) x4 x1 xs) ∗ owns (c : Thread nD τ) arg5 fullShare x4 ∗ owns (c : Thread nD τ) arg6 fullShare x5 ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part17_eq_skeleton, k0_part18_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg5.eq_unread hf4; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine funext fun y => View.read_writes_apply_of_pieces _ _ (YB (wsAt x2 i) x4 x1 xs) _ ?_ y (View.cover_of_tiledL (s := S192x8x512) _ S32x8x512.size (by sl_kernel_rfl) y)
      intro p hp z
      simp only [List.mem_cons, List.not_mem_nil, or_false] at hp
      rcases hp with rfl | rfl | rfl | rfl | rfl | rfl
      · exact pieceY (f := fun ws q w s => k0_pay2 (k0_pay83 ws) q w s) y5 5 (ws_load arg3 harg3 x2 i (k0_off1_inb i)) (rows_load arg5 harg5 x4 5 inb_S1536x2432_S256x2432_1280_0) (w_load arg2 harg2 x1 inb_S512x2432_S512x2432_0_0) (cols_load arg7 harg7 xs 5 inb_S1536x128_S256x128_1280_0) inb_S192x8x512_S32x8x512_160_0_0 z
      · exact pieceY (f := fun ws q w s => k0_pay1 (k0_pay88 (k0_pay83 ws) q w s)) y4 4 (ws_load arg3 harg3 x2 i (k0_off1_inb i)) (rows_load arg5 harg5 x4 4 inb_S1536x2432_S256x2432_1024_0) (w_load arg2 harg2 x1 inb_S512x2432_S512x2432_0_0) (cols_load arg7 harg7 xs 4 inb_S1536x128_S256x128_1024_0) inb_S192x8x512_S32x8x512_128_0_0 z
      · exact pieceY (f := fun ws q w s => k0_pay87 (k0_pay83 ws) q w s) y3 3 (ws_load arg3 harg3 x2 i (k0_off1_inb i)) (rows_load arg5 harg5 x4 3 inb_S1536x2432_S256x2432_768_0) (w_load arg2 harg2 x1 inb_S512x2432_S512x2432_0_0) (cols_load arg7 harg7 xs 3 inb_S1536x128_S256x128_768_0) inb_S192x8x512_S32x8x512_96_0_0 z
      · exact pieceY (f := fun ws q w s => k0_pay86 (k0_pay83 ws) q w s) y2 2 (ws_load arg3 harg3 x2 i (k0_off1_inb i)) (rows_load arg5 harg5 x4 2 inb_S1536x2432_S256x2432_512_0) (w_load arg2 harg2 x1 inb_S512x2432_S512x2432_0_0) (cols_load arg7 harg7 xs 2 inb_S1536x128_S256x128_512_0) inb_S192x8x512_S32x8x512_64_0_0 z
      · exact pieceY (f := k0_pay85) y1 1 (ws_load arg3 harg3 x2 i (k0_off1_inb i)) (rows_load arg5 harg5 x4 1 inb_S1536x2432_S256x2432_256_0) (w_load arg2 harg2 x1 inb_S512x2432_S512x2432_0_0) (cols_load arg7 harg7 xs 1 inb_S1536x128_S256x128_256_0) inb_S192x8x512_S32x8x512_32_0_0 z
      · exact pieceY (f := k0_pay84) (fun _ _ _ _ => rfl) 0 (ws_load arg3 harg3 x2 i (k0_off1_inb i)) (rows_load arg5 harg5 x4 0 inb_S1536x2432_S256x2432_0_0) (w_load arg2 harg2 x1 inb_S512x2432_S512x2432_0_0) (cols_load arg7 harg7 xs 0 inb_S1536x128_S256x128_0_0) inb_S192x8x512_S32x8x512_0_0_0 z
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact HS0

set_option maxHeartbeats 2000000 in
/-- The run of the body at the first grid point: it fills the codes, the scales and the scratch columns, and then
    computes its block of the result from them. -/
theorem runA (c : Dev nD) (i : grid0.Coords) (arg1 : Memref sig .tc .vmem S1536x2432 .bf16) (harg1 : arg1.IsWhole) (arg2 : Memref sig .tc .vmem S512x2432 .fp8e4m3) (harg2 : arg2.IsWhole)
    (arg3 : Memref sig .tc .vmem S9728 .f32) (harg3 : arg3.IsWhole) (arg4 : Memref sig .tc .vmem S192x8x512 .bf16) (harg4 : arg4.IsWhole)
    (arg5 : Memref sig .tc .vmem S1536x2432 .fp8e4m3) (harg5 : arg5.IsWhole) (arg6 : Memref sig .tc .vmem S3x1x512 .f32) (harg6 : arg6.IsWhole)
    (arg7 : Memref sig .tc .vmem S1536x128 .f32) (harg7 : arg7.IsWhole) (hc0 : cond0_0 i)
    (x0 : Vec F S1536x2432 .bf16) (x1 : Vec F S512x2432 .fp8e4m3) (x2 : Vec F S9728 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (YB (wsAt x2 i) (CODES x0) x1 (SCOL x0)) ∗ owns (c : Thread nD τ) arg5 fullShare (CODES x0) ∗ owns (c : Thread nD τ) arg6 fullShare (SCALE x0) ∗ owns (c : Thread nD τ) arg7 fullShare (SCOL x0)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    have hq : ∀ f, arg5.view.read (Elt F) (arg5.view.writes (Elt F) f (runA.sl.H4_6 c arg1 harg1 x0)) = CODES x0 := fun f =>
      codes_read f x0 ((codes5 _).trans (congrArg codesK (rows_load arg1 harg1 x0 5 inb_S1536x2432_S256x2432_1280_0)))
        ((codes4 _).trans (congrArg codesK (rows_load arg1 harg1 x0 4 inb_S1536x2432_S256x2432_1024_0)))
        ((codes3 _).trans (congrArg codesK (rows_load arg1 harg1 x0 3 inb_S1536x2432_S256x2432_768_0)))
        ((codes2 _).trans (congrArg codesK (rows_load arg1 harg1 x0 2 inb_S1536x2432_S256x2432_512_0)))
        ((codes1 _).trans (congrArg codesK (rows_load arg1 harg1 x0 1 inb_S1536x2432_S256x2432_256_0)))
        ((congrArg codesK (rows_load arg1 harg1 x0 0 inb_S1536x2432_S256x2432_0_0)))
    have hs : ∀ f, arg7.view.read (Elt F) (arg7.view.writes (Elt F) f (runA.sl.HS0_6 c arg1 harg1 x0)) = SCOL x0 := fun f =>
      col_read f x0 ((col5 _).trans (congrArg colK (rows_load arg1 harg1 x0 5 inb_S1536x2432_S256x2432_1280_0)))
        ((col4 _).trans (congrArg colK (rows_load arg1 harg1 x0 4 inb_S1536x2432_S256x2432_1024_0)))
        ((col3 _).trans (congrArg colK (rows_load arg1 harg1 x0 3 inb_S1536x2432_S256x2432_768_0)))
        ((col2 _).trans (congrArg colK (rows_load arg1 harg1 x0 2 inb_S1536x2432_S256x2432_512_0)))
        ((col1 _).trans (congrArg colK (rows_load arg1 harg1 x0 1 inb_S1536x2432_S256x2432_256_0)))
        ((congrArg colK (rows_load arg1 harg1 x0 0 inb_S1536x2432_S256x2432_0_0)))
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine funext fun y => View.read_writes_apply_of_pieces _ _ (YB (wsAt x2 i) (CODES x0) x1 (SCOL x0)) _ ?_ y (View.cover_of_tiledL (s := S192x8x512) _ S32x8x512.size (by sl_kernel_rfl) y)
      intro p hp z
      simp only [List.mem_cons, List.not_mem_nil, or_false] at hp
      rcases hp with rfl | rfl | rfl | rfl | rfl | rfl
      · exact pieceY (f := fun ws q w s => k0_pay2 (k0_pay83 ws) q w s) y5 5 (ws_load arg3 harg3 x2 i (k0_off1_inb i)) (rows_cov arg5 (hq _) 5 inb_S1536x2432_S256x2432_1280_0) (w_load arg2 harg2 x1 inb_S512x2432_S512x2432_0_0) (cols_cov arg7 (hs _) 5 inb_S1536x128_S256x128_1280_0) inb_S192x8x512_S32x8x512_160_0_0 z
      · exact pieceY (f := fun ws q w s => k0_pay1 (k0_pay88 (k0_pay83 ws) q w s)) y4 4 (ws_load arg3 harg3 x2 i (k0_off1_inb i)) (rows_cov arg5 (hq _) 4 inb_S1536x2432_S256x2432_1024_0) (w_load arg2 harg2 x1 inb_S512x2432_S512x2432_0_0) (cols_cov arg7 (hs _) 4 inb_S1536x128_S256x128_1024_0) inb_S192x8x512_S32x8x512_128_0_0 z
      · exact pieceY (f := fun ws q w s => k0_pay87 (k0_pay83 ws) q w s) y3 3 (ws_load arg3 harg3 x2 i (k0_off1_inb i)) (rows_cov arg5 (hq _) 3 inb_S1536x2432_S256x2432_768_0) (w_load arg2 harg2 x1 inb_S512x2432_S512x2432_0_0) (cols_cov arg7 (hs _) 3 inb_S1536x128_S256x128_768_0) inb_S192x8x512_S32x8x512_96_0_0 z
      · exact pieceY (f := fun ws q w s => k0_pay86 (k0_pay83 ws) q w s) y2 2 (ws_load arg3 harg3 x2 i (k0_off1_inb i)) (rows_cov arg5 (hq _) 2 inb_S1536x2432_S256x2432_512_0) (w_load arg2 harg2 x1 inb_S512x2432_S512x2432_0_0) (cols_cov arg7 (hs _) 2 inb_S1536x128_S256x128_512_0) inb_S192x8x512_S32x8x512_64_0_0 z
      · exact pieceY (f := k0_pay85) y1 1 (ws_load arg3 harg3 x2 i (k0_off1_inb i)) (rows_cov arg5 (hq _) 1 inb_S1536x2432_S256x2432_256_0) (w_load arg2 harg2 x1 inb_S512x2432_S512x2432_0_0) (cols_cov arg7 (hs _) 1 inb_S1536x128_S256x128_256_0) inb_S192x8x512_S32x8x512_32_0_0 z
      · exact pieceY (f := k0_pay84) (fun _ _ _ _ => rfl) 0 (ws_load arg3 harg3 x2 i (k0_off1_inb i)) (rows_cov arg5 (hq _) 0 inb_S1536x2432_S256x2432_0_0) (w_load arg2 harg2 x1 inb_S512x2432_S512x2432_0_0) (cols_cov arg7 (hs _) 0 inb_S1536x128_S256x128_0_0) inb_S192x8x512_S32x8x512_0_0_0 z
    isplitl [H4]
    · iexists _; isplitr; swap; · iexact H4
      ipureintro; exact hq _
    isplitl [H5]
    · iexists _; isplitr; swap; · iexact H5
      ipureintro
      exact row_read f5 x0 ((row5 _).trans (congrArg rowK (rows_load arg1 harg1 x0 5 inb_S1536x2432_S256x2432_1280_0)))
        ((row4 _).trans (congrArg rowK (rows_load arg1 harg1 x0 4 inb_S1536x2432_S256x2432_1024_0)))
        ((row3 _).trans (congrArg rowK (rows_load arg1 harg1 x0 3 inb_S1536x2432_S256x2432_768_0)))
        ((row2 _).trans (congrArg rowK (rows_load arg1 harg1 x0 2 inb_S1536x2432_S256x2432_512_0)))
        ((row1 _).trans (congrArg rowK (rows_load arg1 harg1 x0 1 inb_S1536x2432_S256x2432_256_0)))
        ((congrArg rowK (rows_load arg1 harg1 x0 0 inb_S1536x2432_S256x2432_0_0)))
    iexists _; isplitr; swap; · iexact HS0
    ipureintro; exact hs _

end Cert.KernelIdeal.Own

end
-- ==== Proof.IdealFrame.lean ====
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Run
public import Idealize.ShloMosaic.Lib.Claim
public import Idealize.ShloMosaic.Lib.Pipeline.TableIdle

@[expose] public section

set_option maxRecDepth 16384

noncomputable section

/-! The pipeline's proof data: what each buffer holds at each grid point. The codes and the scales are computed at the
    first point and stay; each point computes one block of the result. -/

namespace Cert.KernelIdeal.Own

open Cert.KernelIdeal Cert.KernelIdeal.Gen Cert.KernelIdeal.Chunks Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2432 .bf16 := win0_0.stage (cfg0.slots t 0)
/-- It is whole. -/
abbrev hs0_0 (t : Fin cfg0.N) : (ms0_0 t).IsWhole := hstage0_0 ((cfg0.slots t 0).cast nbuf0_0)
/-- Window 1 likewise. -/
abbrev ms0_1 (t : Fin cfg0.N) : Memref sig .tc .vmem S512x2432 .fp8e4m3 := win0_1.stage (cfg0.slots t 1)
/-- It is whole. -/
abbrev hs0_1 (t : Fin cfg0.N) : (ms0_1 t).IsWhole := hstage0_1 ((cfg0.slots t 1).cast nbuf0_1)
/-- Window 2 likewise. -/
abbrev ms0_2 (t : Fin cfg0.N) : Memref sig .tc .vmem S9728 .f32 := win0_2.stage (cfg0.slots t 2)
/-- It is whole. -/
abbrev hs0_2 (t : Fin cfg0.N) : (ms0_2 t).IsWhole := hstage0_2 ((cfg0.slots t 2).cast nbuf0_2)
/-- Window 3 likewise. -/
abbrev ms0_3 (t : Fin cfg0.N) : Memref sig .tc .vmem S192x8x512 .bf16 := win0_3.stage (cfg0.slots t 3)
/-- It is whole. -/
abbrev hs0_3 (t : Fin cfg0.N) : (ms0_3 t).IsWhole := hstage0_3 ((cfg0.slots t 3).cast nbuf0_3)
/-- Window 4 likewise. -/
abbrev ms0_4 (t : Fin cfg0.N) : Memref sig .tc .vmem S1536x2432 .fp8e4m3 := win0_4.stage (cfg0.slots t 4)
/-- It is whole. -/
abbrev hs0_4 (t : Fin cfg0.N) : (ms0_4 t).IsWhole := hstage0_4 ((cfg0.slots t 4).cast nbuf0_4)
/-- Window 5 likewise. -/
abbrev ms0_5 (t : Fin cfg0.N) : Memref sig .tc .vmem S3x1x512 .f32 := win0_5.stage (cfg0.slots t 5)
/-- It is whole. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-- The first grid point. -/
abbrev t0 : Fin cfg0.N := ⟨0, by rw [show cfg0.N = 19 from N_0]; decide⟩

/-- The rows of `x` the kernel reads, the same at every point. -/
def X0 (c : Dev nD) : Vec F S1536x2432 .bf16 := iblk m c 0 t0
/-- Every point reads the same rows. -/
theorem iblk_X0 (c : Dev nD) (t : Fin cfg0.N) : (iblk m c 0 t : Vec F S1536x2432 .bf16) = X0 m c := rfl

/-- The block of the result that point `t` computes. -/
def Yat (c : Dev nD) (t : Fin cfg0.N) : Vec F S192x8x512 .bf16 :=
  YB (wsAt (iblk m c 2 t) (grid0.coords t)) (CODES (X0 m c)) (iblk m c 1 t) (SCOL (X0 m c))

/-- The scratch columns between points: anything at first, then the scales. -/
def inv (c : Dev nD) (n : ℕ) : sProp 𝕄 :=
  if n = 0 then Pipeline.ΦA spec0 c else iprop(iprop(owns (c : Thread nD τ) scM0_0 fullShare (SCOL (X0 m c))) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Yat m c t
    | ⟨4, _⟩ => CODES (X0 m c)
    | ⟨5, _⟩ => SCALE (X0 m c)
  Φ t := inv m c t.val
  q _ := fullShare
  owed _ := 0

/-- The proof data's arrays are the contents when the pipeline starts. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- Window 1 likewise. -/
theorem after0_1 (c : Dev nD) (t : Fin cfg0.N) : (dats m 0 c).after 1 t = iblk m c 1 t := by dsimp only [dats]
/-- Window 2 likewise. -/
theorem after0_2 (c : Dev nD) (t : Fin cfg0.N) : (dats m 0 c).after 2 t = iblk m c 2 t := by dsimp only [dats]
/-- The block of the result. -/
theorem after0_3 (c : Dev nD) (t : Fin cfg0.N) : (dats m 0 c).after 3 t = Yat m c t := by dsimp only [dats]
/-- The codes. -/
theorem after0_4 (c : Dev nD) (t : Fin cfg0.N) : (dats m 0 c).after 4 t = CODES (X0 m c) := by dsimp only [dats]
/-- The scales. -/
theorem after0_5 (c : Dev nD) (t : Fin cfg0.N) : (dats m 0 c).after 5 t = SCALE (X0 m c) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
/-- Window 1 likewise. -/
theorem before0_1 (c : Dev nD) (t : Fin cfg0.N) (d) : (dats m 0 c).before 1 t d = iblk m c 1 t :=
  before0_1_of m (dats m 0 c) (A_eq m c 1) (after0_1 m c) t d
/-- Window 2 likewise. -/
theorem before0_2 (c : Dev nD) (t : Fin cfg0.N) (d) : (dats m 0 c).before 2 t d = iblk m c 2 t :=
  before0_2_of m (dats m 0 c) (A_eq m c 2) (after0_2 m c) t d

/-- The codes' and the scales' windows are idle after the first point, -/
theorem idle0_4 (t : Fin cfg0.N) : cfg0.idle 4 (grid0.coords t) = true ↔ t.val ≠ 0 := by
  have hN : t.val < 19 := lt_of_lt_of_eq t.isLt (show cfg0.N = 19 from N_0)
  have h := hcond0_0 t
  have h' : t.val % 19 = t.val := Nat.mod_eq_of_lt hN
  rw [h'] at h
  show (!(k0_cond1 (grid0.coords t) == 1#1)) = true ↔ _
  rw [Bool.not_eq_true', beq_eq_false_iff_ne]
  exact not_congr h
/-- Window 5 likewise. -/
theorem idle0_5 (t : Fin cfg0.N) : cfg0.idle 5 (grid0.coords t) = true ↔ t.val ≠ 0 := idle0_4 t

/-- and are filled by then. -/
theorem fresh0_4 : ∀ n, n + 1 < cfg0.N → cfg0.fresh 4 (n + 1) = false
  | 0, h => by
    have hN : cfg0.N = 19 := N_0
    have hz : 0 < cfg0.N := by omega
    rw [Pipeline.Cfg.fresh_succ cfg0 4 0 hz]
    have hf : (cfg0.win 4).flush ⟨0, hz⟩ = false := by
      rw [← Bool.not_eq_true, flush0_4]; show ¬0 % 19 = 18; decide
    have hi : cfg0.idle 4 (cfg0.grid.coords ⟨0, hz⟩) = false := by
      rw [← Bool.not_eq_true]; exact fun hh => (idle0_4 ⟨0, hz⟩).mp hh rfl
    rw [hf, hi]; rfl
  | n + 1, h => by
    have hN : cfg0.N = 19 := N_0
    have hz : n + 1 < cfg0.N := by omega
    rw [Pipeline.Cfg.fresh_succ cfg0 4 (n + 1) hz, fresh0_4 n hz]
    have hf : (cfg0.win 4).flush ⟨n + 1, hz⟩ = false := by
      rw [← Bool.not_eq_true, flush0_4]; show ¬(n + 1) % 19 = 18; omega
    rw [hf, Bool.and_false]; rfl
/-- Window 5 likewise. -/
theorem fresh0_5 : ∀ n, n + 1 < cfg0.N → cfg0.fresh 5 (n + 1) = false
  | 0, h => by
    have hN : cfg0.N = 19 := N_0
    have hz : 0 < cfg0.N := by omega
    rw [Pipeline.Cfg.fresh_succ cfg0 5 0 hz]
    have hf : (cfg0.win 5).flush ⟨0, hz⟩ = false := by
      rw [← Bool.not_eq_true, flush0_5]; show ¬0 % 19 = 18; decide
    have hi : cfg0.idle 5 (cfg0.grid.coords ⟨0, hz⟩) = false := by
      rw [← Bool.not_eq_true]; exact fun hh => (idle0_5 ⟨0, hz⟩).mp hh rfl
    rw [hf, hi]; rfl
  | n + 1, h => by
    have hN : cfg0.N = 19 := N_0
    have hz : n + 1 < cfg0.N := by omega
    rw [Pipeline.Cfg.fresh_succ cfg0 5 (n + 1) hz, fresh0_5 n hz]
    have hf : (cfg0.win 5).flush ⟨n + 1, hz⟩ = false := by
      rw [← Bool.not_eq_true, flush0_5]; show ¬(n + 1) % 19 = 18; omega
    rw [hf, Bool.and_false]; rfl

/-- After the first point the body finds the codes and the scales there. -/
theorem before0_4 (c : Dev nD) (t : Fin cfg0.N) (ht : t.val ≠ 0) (d) : (dats m 0 c).before 4 t d = CODES (X0 m c) := by
  rw [(dats m 0 c).before_out_traj 4 rfl (fun _ _ => rfl) (fun _ _ _ _ => by rw [after0_4, after0_4]) t.val t rfl d]
  obtain ⟨n, hn⟩ := Nat.exists_eq_succ_of_ne_zero ht
  rw [show cfg0.fresh 4 t.val = false from by rw [hn]; exact fresh0_4 n (by rw [← Nat.succ_eq_add_one, ← hn]; exact t.isLt)]
  rw [if_neg Bool.false_ne_true, after0_4]
/-- The scales likewise. -/
theorem before0_5 (c : Dev nD) (t : Fin cfg0.N) (ht : t.val ≠ 0) (d) : (dats m 0 c).before 5 t d = SCALE (X0 m c) := by
  rw [(dats m 0 c).before_out_traj 5 rfl (fun _ _ => rfl) (fun _ _ _ _ => by rw [after0_5, after0_5]) t.val t rfl d]
  obtain ⟨n, hn⟩ := Nat.exists_eq_succ_of_ne_zero ht
  rw [show cfg0.fresh 5 t.val = false from by rw [hn]; exact fresh0_5 n (by rw [← Nat.succ_eq_add_one, ← hn]; exact t.isLt)]
  rw [if_neg Bool.false_ne_true, after0_5]

/-- The buffers as the body leaves them are what the pipeline expects of the idle windows. -/
theorem leaves0_4 (c : Dev nD) (t : Fin cfg0.N) :
    owns (c : Thread nD τ) (ms0_4 t) fullShare (CODES (X0 m c)) ⊢ ((dats m 0 c).leavesExact 4 t : sProp 𝕄) := by
  unfold Dat.leavesExact
  cases hi : cfg0.idle 4 (cfg0.grid.coords t)
  · dsimp only; rw [after0_4]
  · cases hf : (cfg0.win 4).flush t
    · dsimp only
      iintro H
      iexists (CODES (X0 m c))
      rw [before0_4 m c t ((idle0_4 t).mp hi)]
      iexact H
    · dsimp only; rw [after0_4]
/-- The scales likewise. -/
theorem leaves0_5 (c : Dev nD) (t : Fin cfg0.N) :
    owns (c : Thread nD τ) (ms0_5 t) fullShare (SCALE (X0 m c)) ⊢ ((dats m 0 c).leavesExact 5 t : sProp 𝕄) := by
  unfold Dat.leavesExact
  cases hi : cfg0.idle 5 (cfg0.grid.coords t)
  · dsimp only; rw [after0_5]
  · cases hf : (cfg0.win 5).flush t
    · dsimp only
      iintro H
      iexists (SCALE (X0 m c))
      rw [before0_5 m c t ((idle0_5 t).mp hi)]
      iexact H
    · dsimp only; rw [after0_5]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Window 3 is never idle. -/
theorem liveAt0_3 : ∀ t : Fin cfg0.N, cfg0.idle 3 (grid0.coords t) = false := fun _ => rfl

set_option maxHeartbeats 800000 in
/-- The body at any point: the first fills the codes and the scales, the later ones find them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  rw [show inv m c (t.val + 1) = iprop(iprop(owns (c : Thread nD τ) scM0_0 fullShare (SCOL (X0 m c))) ∗ (∃ r, prngReg c r)) from
    if_neg (Nat.succ_ne_zero _)]
  have hN : t.val < 19 := lt_of_lt_of_eq t.isLt (show cfg0.N = 19 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val = 0
  · rw [show inv m c t.val = Pipeline.ΦA spec0 c from if_pos h0, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ ((hcond0_0 t).mpr (by rw [h0])) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves0_4 m c t); iexact H4
    iapply (leaves0_5 m c t); iexact H5
  · rw [show inv m c t.val = iprop(iprop(owns (c : Thread nD τ) scM0_0 fullShare (SCOL (X0 m c))) ∗ (∃ r, prngReg c r)) from if_neg h0]
    simp only [before0_4 m c t h0, before0_5 m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ (fun h => h0 (by have := (hcond0_0 t).mp h; omega)) (iblk m c 0 t) (iblk m c 1 t) (iblk m c 2 t) (CODES (X0 m c)) (SCALE (X0 m c)) (SCOL (X0 m c))) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves0_4 m c t); iexact H4
    iapply (leaves0_5 m c t); iexact H5

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What is owned at the start is the invariant at the first point, -/
theorem hin (c : Dev nD) : (Pipeline.ΦA spec0 c : sProp 𝕄) ⊢ (dats m 0 c).Φ 0 := by
  rw [show (dats m 0 c).Φ 0 = Pipeline.ΦA spec0 c from (show inv m c 0 = _ from if_pos rfl)]

/-- and the invariant after the last point gives it back. -/
theorem hout (c : Dev nD) : (dats m 0 c).Φ (Fin.last cfg0.N) ⊢ (Pipeline.ΦA spec0 c : sProp 𝕄) := by
  rw [show (dats m 0 c).Φ (Fin.last cfg0.N) = iprop(iprop(owns (c : Thread nD τ) scM0_0 fullShare (SCOL (X0 m c))) ∗ (∃ r, prngReg c r)) from
    (show inv m c cfg0.N = _ from if_neg (by rw [show cfg0.N = 19 from N_0]; decide)), PhiA0_eq]
  iintro ⟨HS0, Hg⟩
  isplitl [HS0]
  · iexists _; iexact HS0
  iexact Hg

set_option backward.isDefEq.respectTransparency.types false in
set_option maxHeartbeats 800000 in
/-- Every execution ends with each array at its final contents and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every execution of the idealized kernel ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.Arrays.lean ====
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame
public import Idealize.ShloMosaic.Lib.Pipeline.ValueKit
public import Idealize.ShloMosaic.Lib.Claim
public import Idealize.ShloMosaic.Lib.Pipeline.TableIdle

@[expose] public section

set_option maxRecDepth 16384

noncomputable section

/-! What the idealized kernel's results hold after the run, as whole arrays. -/

namespace Cert.KernelIdeal.Own

open Cert.KernelIdeal Cert.KernelIdeal.Gen Cert.KernelIdeal.Chunks Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The result before the last reshape, from the blocks of the grid points. -/
def YARR (c : Dev nD) : Vec F S192x8x9728 .bf16 := fun y =>
  Yat m c ⟨(y 2).val / 512, by
    have h : (y 2).val < 9728 := (y 2).isLt
    rw [show cfg0.N = 19 from N_0]; omega⟩ (ix3 (y 0) (y 1) ⟨(y 2).val % 512, Nat.mod_lt _ (by norm_num)⟩)

/-! ## Where the blocks lie in their arrays -/

/-- Point `t` takes block `t` of the columns, and the whole of everything else. -/
theorem index1 : ∀ t : Fin cfg0.N, win0_1.index t 0 = t.val ∧ win0_1.index t 1 = 0 := (by decide +kernel : ∀ t : Fin grid0.N, _)
/-- Window 2 has one block. -/
theorem index2 : ∀ t : Fin cfg0.N, win0_2.index t 0 = 0 := (by decide +kernel : ∀ t : Fin grid0.N, _)
/-- Window 3 takes block `t` of the columns. -/
theorem index3 : ∀ t : Fin cfg0.N, win0_3.index t 0 = 0 ∧ win0_3.index t 1 = 0 ∧ win0_3.index t 2 = t.val :=
  (by decide +kernel : ∀ t : Fin grid0.N, _)
/-- The grid's one coordinate is the number of the point. -/
theorem coords_eq : ∀ t : Fin cfg0.N, (grid0.coords t 0).val = t.val := (by decide +kernel : ∀ t : Fin grid0.N, _)

/-- Column `512 * t + n`. -/
def colOf (t : Fin cfg0.N) (n : Fin 512) : Fin 9728 :=
  ⟨512 * t.val + n.val, by
    have h : t.val < 19 := t.isLt.trans_eq N_0
    omega⟩

/-- The block of `x` is the whole of it. -/
theorem emb0 (t : Fin cfg0.N) (y : S1536x2432.Idx) : ((cfg0.win 0).blk t).view.emb y = y := by
  funext a
  apply Fin.ext
  blk_simp
  match a with
  | ⟨0, _⟩ => exact Nat.zero_add _
  | ⟨1, _⟩ => exact Nat.zero_add _

/-- Row `n` of point `t`'s block of `w` is row `colOf t n` of `w`. -/
theorem emb1 (t : Fin cfg0.N) (y : S512x2432.Idx) : ((cfg0.win 1).blk t).view.emb y = ix2 (colOf t (y 0)) (y 1) := by
  obtain ⟨h0, h1⟩ := index1 t
  funext a
  apply Fin.ext
  match a with
  | ⟨0, _⟩ =>
    blk_simp
    rw [h0, Nat.mul_comm]
    rfl
  | ⟨1, _⟩ =>
    blk_simp
    rw [h1, Nat.zero_mul, Nat.zero_add]
    rfl

/-- The block of weight scales is all of them. -/
theorem emb2 (t : Fin cfg0.N) (y : S9728.Idx) : ((cfg0.win 2).blk t).view.emb y = y := by
  have h0 := index2 t
  funext a
  apply Fin.ext
  match a with
  | ⟨0, _⟩ =>
    blk_simp
    rw [h0, Nat.zero_mul, Nat.zero_add]

/-- Column `n` of point `t`'s block of the result is column `colOf t n`. -/
theorem emb3 (t : Fin cfg0.N) (y : S192x8x512.Idx) : ((cfg0.win 3).blk t).view.emb y = ix3 (y 0) (y 1) (colOf t (y 2)) := by
  obtain ⟨h0, h1, h2⟩ := index3 t
  funext a
  apply Fin.ext
  match a with
  | ⟨0, _⟩ =>
    blk_simp
    rw [h0, Nat.zero_mul, Nat.zero_add]
    rfl
  | ⟨1, _⟩ =>
    blk_simp
    rw [h1, Nat.zero_mul, Nat.zero_add]
    rfl
  | ⟨2, _⟩ =>
    blk_simp
    rw [h2, Nat.mul_comm]
    rfl

/-- The block of the codes is all of them. -/
theorem emb4 (t : Fin cfg0.N) (y : S1536x2432.Idx) : ((cfg0.win 4).blk t).view.emb y = y := by
  funext a
  apply Fin.ext
  blk_simp
  match a with
  | ⟨0, _⟩ => exact Nat.zero_add _
  | ⟨1, _⟩ => exact Nat.zero_add _

/-- The block of the scales is all of them. -/
theorem emb5 (t : Fin cfg0.N) (y : S3x1x512.Idx) : ((cfg0.win 5).blk t).view.emb y = y := by
  funext a
  apply Fin.ext
  blk_simp
  match a with
  | ⟨0, _⟩ => exact Nat.zero_add _
  | ⟨1, _⟩ => exact Nat.zero_add _
  | ⟨2, _⟩ => exact Nat.zero_add _

/-! ## What the blocks hold -/

/-- The region finds `x` as 1536 rows. -/
theorem V_v0 (c : Dev nD) : V m c main_v0 = shapeCast S1536x2432 (m ((c : Thread nD τ).loc main_arg0)) shapeCasts_S3x512x2432_S1536x2432 := by
  entry_read
  rfl

/-- Its rows, as the kernel reads them. -/
theorem X0_eq (c : Dev nD) : X0 m c = shapeCast S1536x2432 (m ((c : Thread nD τ).loc main_arg0)) shapeCasts_S3x512x2432_S1536x2432 := by
  rw [← V_v0]
  funext y
  show V m c main_v0 (((cfg0.win 0).blk t0).view.emb y) = V m c main_v0 y
  rw [emb0]

/-- Point `t` reads block `t` of the rows of `w`, -/
theorem iblk1_apply (c : Dev nD) (t : Fin cfg0.N) (n : Fin 512) (k : Fin 2432) :
    (iblk m c 1 t : Vec F S512x2432 .fp8e4m3) (ix2 n k) = (m ((c : Thread nD τ).loc main_arg1) : Vec F S9728x2432 .fp8e4m3) (ix2 (colOf t n) k) := by
  show V m c main_arg1 (((cfg0.win 1).blk t).view.emb (ix2 n k)) = _
  rw [emb1, V_main_arg1]
  rfl

/-- and block `t` of their scales. -/
theorem ws_apply (c : Dev nD) (t : Fin cfg0.N) (n : Fin 512) :
    wsAt (iblk m c 2 t) (grid0.coords t) (ix1 n) = (m ((c : Thread nD τ).loc main_arg2) : Vec F S9728 .f32) (ix1 (colOf t n)) := by
  show V m c main_arg2 (((cfg0.win 2).blk t).view.emb _) = _
  rw [emb2, V_main_arg2]
  refine congrArg (m ((c : Thread nD τ).loc main_arg2) : Vec F S9728 .f32) ?_
  funext a
  apply Fin.ext
  match a with
  | ⟨0, _⟩ =>
    show k0_off1 (grid0.coords t) 0 + 1 * n.val = 512 * t.val + n.val
    rw [k0_off1_eq, Nat.one_mul, ← coords_eq t]
    rfl

/-! ## The results -/

/-- The array of the products, block by block; -/
theorem final3 (c : Dev nD) : (dats m 0 c).arrAt 3 cfg0.N = YARR m c := by
  refine (dats m 0 c).arrAt_eq_of_covers 3 (YARR m c) (by decide +kernel) fun t hf y => ?_
  blk_simp
  rw [after0_3]
  refine Eq.trans ?_ (congrArg (YARR m c) (emb3 t y)).symm
  have hy : (y 2).val < 512 := (y 2).isLt
  have hN : t.val < 19 := t.isLt.trans_eq N_0
  have h1 : (⟨(512 * t.val + (y 2).val) / 512, by rw [show cfg0.N = 19 from N_0]; omega⟩ : Fin cfg0.N) = t := Fin.ext (by
    show (512 * t.val + (y 2).val) / 512 = t.val
    omega)
  have h2 : (⟨(512 * t.val + (y 2).val) % 512, Nat.mod_lt _ (by norm_num)⟩ : Fin 512) = y 2 := Fin.ext (by
    show (512 * t.val + (y 2).val) % 512 = (y 2).val
    omega)
  refine (congrArg (Yat m c t) (eq_ix3 y)).trans ?_
  exact congrArg₂ (fun p q => Yat m c p (ix3 (y 0) (y 1) q)) h1.symm h2.symm

/-- the codes; -/
theorem final4 (c : Dev nD) : (dats m 0 c).arrAt 4 cfg0.N = CODES (X0 m c) := by
  refine (dats m 0 c).arrAt_eq_of_covers 4 (CODES (X0 m c)) (by decide +kernel) fun t hf y => ?_
  blk_simp
  rw [after0_4]
  exact (congrArg (CODES (X0 m c)) (emb4 t y)).symm

/-- the scales. -/
theorem final5 (c : Dev nD) : (dats m 0 c).arrAt 5 cfg0.N = SCALE (X0 m c) := by
  refine (dats m 0 c).arrAt_eq_of_covers 5 (SCALE (X0 m c)) (by decide +kernel) fun t hf y => ?_
  blk_simp
  rw [after0_5]
  exact (congrArg (SCALE (X0 m c)) (emb5 t y)).symm

/-- Result 2 is the array of window 3, reshaped; -/
theorem tail_v2 (c : Dev nD) :
    Pipeline.afterTail₀ cfgs (dats m) 0 (V0 m) [hostOps1] c main_v2 = shapeCast S3x512x9728 (YARR m c) shapeCasts_S192x8x9728_S3x512x9728 := by
  unfold Pipeline.afterTail₀
  simp only [hostOps1, List.flatten_cons, List.flatten_nil, List.append_nil]
  after_results
  rw [Pipeline.withArrays_arr (win := spec0) (by decide) c (V0 m c) (fun w => (dats m 0 c).arrAt w (cfgs 0).N) 3]
  exact congrArg (fun z => shapeCast S3x512x9728 z shapeCasts_S192x8x9728_S3x512x9728) (final3 m c)

/-- Result 3 is the array of window 4, reshaped; -/
theorem tail_v3 (c : Dev nD) :
    Pipeline.afterTail₀ cfgs (dats m) 0 (V0 m) [hostOps1] c main_v3 = shapeCast S3x512x2432 (CODES (X0 m c)) shapeCasts_S1536x2432_S3x512x2432 := by
  unfold Pipeline.afterTail₀
  simp only [hostOps1, List.flatten_cons, List.flatten_nil, List.append_nil]
  after_results
  rw [Pipeline.withArrays_arr (win := spec0) (by decide) c (V0 m c) (fun w => (dats m 0 c).arrAt w (cfgs 0).N) 4]
  exact congrArg (fun z => shapeCast S3x512x2432 z shapeCasts_S1536x2432_S3x512x2432) (final4 m c)

/-- Result 4 is the array of window 5, reshaped; -/
theorem tail_v4 (c : Dev nD) :
    Pipeline.afterTail₀ cfgs (dats m) 0 (V0 m) [hostOps1] c main_v4 = shapeCast S3x512x1 (SCALE (X0 m c)) shapeCasts_S3x1x512_S3x512x1 := by
  unfold Pipeline.afterTail₀
  simp only [hostOps1, List.flatten_cons, List.flatten_nil, List.append_nil]
  after_results
  rw [Pipeline.withArrays_arr (win := spec0) (by decide) c (V0 m c) (fun w => (dats m 0 c).arrAt w (cfgs 0).N) 5]
  exact congrArg (fun z => shapeCast S3x512x1 z shapeCasts_S3x1x512_S3x512x1) (final5 m c)

end Cert.KernelIdeal.Own

end
-- ==== Proof.Scale.lean ====
module

public import Idealize.ShloMosaic.Lib.Pointwise

@[expose] public section

set_option maxRecDepth 16384

noncomputable section

/-! The scale of one row, twice: as the kernel finds it (the biased exponent by bisection over powers of two,
    then the power of two with that exponent) and as the reference states it (the least power of two above
    the row's largest magnitude over 448). This module shows that the two agree over the extended reals. -/

namespace Cert.Scale

open Idealize.ShloMosaic

/-- The f32 pattern whose biased exponent is `n` and whose fraction is zero. -/
def P (n : ℕ) : EReal := Ideal.ofBits .f32 (BitVec.ofNat 32 (n * 2 ^ 23))

/-- The three fields of that pattern: sign zero, exponent `n`, fraction zero. -/
theorem fields : ∀ n : Fin 256,
    (((BitVec.ofNat 32 (n.val * 2 ^ 23)).extractLsb' (8 + 23) 1 == 1#1) = false)
    ∧ ((BitVec.ofNat 32 (n.val * 2 ^ 23)).extractLsb' 23 8).toNat = n.val
    ∧ ((BitVec.ofNat 32 (n.val * 2 ^ 23)).extractLsb' 0 23).toNat = 0 := by decide +kernel

/-- Between 1 and 254 it is the power of two. -/
theorem P_coe {n : ℕ} (h1 : 1 ≤ n) (h2 : n ≤ 254) : P n = (((2 : ℝ) ^ ((n : ℤ) - 127) : ℝ) : EReal) := by
  obtain ⟨a, b, c⟩ := fields ⟨n, by omega⟩
  simp only at a b c
  unfold P Ideal.ofBits Ideal.ieee
  simp only [a, b, c]
  rw [if_neg (by norm_num; omega), if_neg (by omega)]
  congr 1
  have : ((2 : ℝ) ^ 23) = (2 : ℝ) ^ (23 : ℤ) := by norm_cast
  norm_num only [Nat.add_zero, Nat.cast_pow, Nat.cast_ofNat, Bool.false_eq_true, if_false, one_mul]
  rw [show (8388608 : ℝ) = (2 : ℝ) ^ (23 : ℤ) by norm_num, ← zpow_add₀ (by norm_num)]
  congr 1; ring

/-- The power of the biased exponent 0 is zero, -/
theorem P_zero : P 0 = 0 := by simp [P, Ideal.ofBits, Ideal.ieee]

/-- that of 255 is infinite, -/
theorem P_top : P 255 = ⊤ := by simp [P, Ideal.ofBits, Ideal.ieee]

/-- those between are positive, -/
theorem P_pos {n : ℕ} (h1 : 1 ≤ n) (h2 : n ≤ 254) : 0 < P n := by
  rw [P_coe h1 h2]; exact_mod_cast zpow_pos (by norm_num : (0 : ℝ) < 2) _

/-- and finite. -/
theorem P_lt_top {n : ℕ} (h2 : n ≤ 254) : P n < ⊤ := by
  rcases Nat.eq_zero_or_pos n with rfl | h
  · rw [P_zero]; exact EReal.zero_lt_top
  · rw [P_coe h h2]; exact EReal.coe_lt_top _

/-- The powers grow with the exponent. -/
theorem P_mono {m n : ℕ} (h : m ≤ n) (h2 : n ≤ 255) : P m ≤ P n := by
  rcases Nat.eq_or_lt_of_le h with rfl | h'
  · exact le_rfl
  rcases Nat.eq_zero_or_pos m with rfl | hm
  · rw [P_zero]
    rcases Nat.eq_or_lt_of_le h2 with rfl | hn
    · rw [P_top]; exact le_top
    · exact (P_pos (by omega) (by omega)).le
  rcases Nat.eq_or_lt_of_le h2 with rfl | hn
  · rw [P_top]; exact le_top
  rw [P_coe hm (by omega), P_coe (by omega) (by omega)]
  exact EReal.coe_le_coe_iff.mpr (zpow_le_zpow_right₀ (by norm_num : (1 : ℝ) ≤ 2) (by omega))

/-- Different exponents give different powers, in the same order. -/
theorem P_strict {m n : ℕ} (h : m < n) (h2 : n ≤ 255) : P m < P n := by
  rcases Nat.eq_or_lt_of_le h2 with rfl | hn
  · rw [P_top]; exact P_lt_top (by omega)
  rcases Nat.eq_zero_or_pos m with rfl | hm
  · rw [P_zero]; exact P_pos (by omega) (by omega)
  rw [P_coe hm (by omega), P_coe (by omega) (by omega)]
  exact EReal.coe_lt_coe_iff.mpr (zpow_lt_zpow_right₀ (by norm_num : (1 : ℝ) < 2) (by omega))

/-! ## The kernel's scale -/

/-- The comparison `≥` of two extended reals, as a bit. -/
theorem cmp_oge (x y : EReal) : FloatOps.cmpf (F := Ideal) (φ := .f32) .oge x y = BitVec.ofBool (decide (y ≤ x)) := rfl

/-- The comparison `=` of two extended reals, as a bit. -/
theorem cmp_oeq (x y : EReal) : FloatOps.cmpf (F := Ideal) (φ := .f32) .oeq x y = BitVec.ofBool (decide (x = y)) := rfl

/-- One step of the bisection: keep the bit if the power of two with it does not exceed `v`. -/
def bst (v : EReal) (bit b : BitVec 32) : BitVec 32 :=
  Scalar.select (FloatOps.cmpf (F := Ideal) (φ := .f32) .oge v (FloatOps.ofBits .f32 (IntOp.shli .vector (IntOp.addi b bit) 23#32)))
    (IntOp.addi b bit) b

/-- The biased exponent of `v`. -/
def bis (v : EReal) : BitVec 32 :=
  bst v 1#32 (bst v 2#32 (bst v 4#32 (bst v 8#32 (bst v 16#32 (bst v 32#32 (bst v 64#32 (bst v 128#32 0#32)))))))

/-- The exponent that the kernel uses for a row whose largest magnitude is `a` and whose quotient is `v`. -/
def expo (a v : EReal) : BitVec 32 :=
  Scalar.select (FloatOps.cmpf (F := Ideal) (φ := .f32) .oeq a (Scalar.ofBits (F := Ideal) .f32 0x00000000#32)) 0#32
    (Scalar.select (IntOp.ori (IntOp.cmpi .eq (bis v) 0#32) (IntOp.cmpi .eq (bis v) 255#32)) 0#32 (IntOp.subi (bis v) 126#32))

/-- The power of two with exponent `e`, as the kernel assembles it. -/
def two (e : BitVec 32) : EReal :=
  Ideal.ofBits .f32 (IntOp.shli .vector (IntOp.addi (IntOp.minsi 128#32 (IntOp.maxsi 4294967169#32 e)) 127#32) 23#32)

/-- A biased exponent, moved to its place in the word. -/
theorem shl_word : ∀ n : Fin 256, IntOp.shli .vector (BitVec.ofNat 32 n.val) 23#32 = BitVec.ofNat 32 (n.val * 2 ^ 23) := by
  decide +kernel

/-- The bisection's invariant: `n` is a lower bound and `n + k` an upper one. -/
def Inv (v : EReal) (n k : ℕ) : Prop := P n ≤ v ∧ n + k ≤ 256 ∧ (n + k = 256 ∨ v < P (n + k))

/-- A step halves the distance. -/
theorem step {v : EReal} {n k : ℕ} (hk : 0 < k) (b : BitVec 32) (hb : b = BitVec.ofNat 32 n) (h : Inv v n (2 * k)) :
    ∃ n', bst v (BitVec.ofNat 32 k) b = BitVec.ofNat 32 n' ∧ Inv v n' k := by
  obtain ⟨h1, h2, h3⟩ := h
  subst hb
  have e : IntOp.addi (BitVec.ofNat 32 n) (BitVec.ofNat 32 k) = BitVec.ofNat 32 (n + k) := by
    unfold IntOp.addi; exact (BitVec.ofNat_add n k).symm
  have e2 : FloatOps.ofBits (F := Ideal) .f32 (IntOp.shli .vector (IntOp.addi (BitVec.ofNat 32 n) (BitVec.ofNat 32 k)) 23#32) = P (n + k) := by
    rw [e, shl_word ⟨n + k, by omega⟩]; rfl
  unfold bst
  rw [e2, e]
  by_cases hv : P (n + k) ≤ v
  · refine ⟨n + k, ?_, hv, by omega, ?_⟩
    · rw [cmp_oge, decide_eq_true hv]; rfl
    · rw [show n + k + k = n + 2 * k by ring]; exact h3
  · refine ⟨n, ?_, h1, by omega, .inr (not_le.mp hv)⟩
    rw [cmp_oge, decide_eq_false hv]; rfl

/-- The bisection ends at the exponent whose binade holds `v`. -/
theorem bis_spec {v : EReal} (hv : 0 ≤ v) :
    ∃ n, bis v = BitVec.ofNat 32 n ∧ P n ≤ v ∧ n ≤ 255 ∧ (n = 255 ∨ v < P (n + 1)) := by
  obtain ⟨n1, e1, i1⟩ := step (v := v) (n := 0) (k := 128) (by norm_num) 0#32 rfl ⟨by rw [P_zero]; exact hv, by norm_num, .inl (by norm_num)⟩
  obtain ⟨n2, e2, i2⟩ := step (k := 64) (by norm_num) _ e1 i1
  obtain ⟨n3, e3, i3⟩ := step (k := 32) (by norm_num) _ e2 i2
  obtain ⟨n4, e4, i4⟩ := step (k := 16) (by norm_num) _ e3 i3
  obtain ⟨n5, e5, i5⟩ := step (k := 8) (by norm_num) _ e4 i4
  obtain ⟨n6, e6, i6⟩ := step (k := 4) (by norm_num) _ e5 i5
  obtain ⟨n7, e7, i7⟩ := step (k := 2) (by norm_num) _ e6 i6
  obtain ⟨n8, e8, i8⟩ := step (k := 1) (by norm_num) _ e7 i7
  refine ⟨n8, e8, i8.1, ?_, ?_⟩
  · have := i8.2.1; omega
  · rcases i8.2.2 with h | h
    · left; omega
    · right; exact h

/-! ## The reference's scale -/

/-- The least of 2^-126 … 2^127 above `v`, or infinity if none is. -/
def above (v : EReal) : EReal :=
  Finset.fold min (Ideal.ofBits .f32 2139095040#32)
    (fun k : Fin 254 => if v < FloatOps.exp2 (F := Ideal) (φ := .f32) (FloatOps.sitofp (F := Ideal) .f32 (IntOp.subi (BitVec.ofNat 32 k.val) 126#32)) then
        FloatOps.exp2 (F := Ideal) (φ := .f32) (FloatOps.sitofp (F := Ideal) .f32 (IntOp.subi (BitVec.ofNat 32 k.val) 126#32))
      else Ideal.ofBits .f32 2139095040#32) Finset.univ

/-- The reference's scale of a row whose quotient is `v`. -/
def scale (v : EReal) : EReal :=
  if Ideal.ofBits .f32 8388608#32 ≤ v ∧ v < Ideal.ofBits .f32 2139095040#32 then above v else 1

/-- The reference's reciprocal of that scale. -/
def inv (v : EReal) : EReal := if scale v < Ideal.ofBits .f32 2130706432#32 then Ideal.div 1 (scale v) else 0

/-- The table's exponents are -126, -125, …. -/
theorem words : ∀ k : Fin 254, (IntOp.subi (BitVec.ofNat 32 k.val) 126#32).toInt = (k.val : ℤ) - 126 := by decide +kernel

/-- Entry `k` of the reference's table is the power with biased exponent `k + 1`. -/
theorem table (k : Fin 254) :
    FloatOps.exp2 (F := Ideal) (φ := .f32) (FloatOps.sitofp (F := Ideal) .f32 (IntOp.subi (BitVec.ofNat 32 k.val) 126#32)) = P (k.val + 1) := by
  rw [P_coe (by omega) (by omega)]
  show Ideal.exp2 ((((IntOp.subi (BitVec.ofNat 32 k.val) 126#32).toInt : ℝ)) : EReal) = _
  rw [words k, Ideal.exp2_coe]
  congr 1
  show (2 : ℝ) ^ (((k.val : ℤ) - 126 : ℤ) : ℝ) = _
  rw [Real.rpow_intCast]
  congr 1; push_cast; ring

/-- The word of infinity. -/
theorem inf_word : Ideal.ofBits .f32 2139095040#32 = ⊤ := P_top
/-- The word of the least normal number. -/
theorem least_word : Ideal.ofBits .f32 8388608#32 = P 1 := rfl
/-- The word of the greatest power of two. -/
theorem most_word : Ideal.ofBits .f32 2130706432#32 = P 254 := rfl

/-- The table's answer for a `v` in the binade of exponent `n` is the next power. -/
theorem above_eq {v : EReal} {n : ℕ} (h1 : 1 ≤ n) (h2 : n ≤ 254) (hl : P n ≤ v) (hu : v < P (n + 1)) : above v = P (n + 1) := by
  unfold above
  simp only [table, inf_word]
  apply le_antisymm
  · rcases Nat.eq_or_lt_of_le h2 with rfl | h
    · rw [P_top]; exact le_top
    · rw [Finset.fold_min_le]
      right
      refine ⟨⟨n, by omega⟩, Finset.mem_univ _, ?_⟩
      simp only [hu, if_true]; exact le_rfl
  · rw [Finset.le_fold_min]
    refine ⟨le_top, fun k _ => ?_⟩
    split
    · next h =>
      apply P_mono _ (by omega)
      by_contra hc
      exact absurd (lt_of_le_of_lt hl h) (not_lt.mpr (P_mono (by omega) (by omega)))
    · exact le_top

/-- Exponents 1 to 254: the kernel's power, one above. -/
theorem two_word : ∀ n : Fin 255, n.val ≠ 0 →
    IntOp.shli .vector (IntOp.addi (IntOp.minsi 128#32 (IntOp.maxsi 4294967169#32
      (Scalar.select (IntOp.ori (IntOp.cmpi .eq (BitVec.ofNat 32 n.val) 0#32) (IntOp.cmpi .eq (BitVec.ofNat 32 n.val) 255#32)) 0#32 (IntOp.subi (BitVec.ofNat 32 n.val) 126#32)))) 127#32) 23#32
      = BitVec.ofNat 32 ((n.val + 1) * 2 ^ 23)
    ∧ IntOp.shli .vector (IntOp.addi (IntOp.minsi 128#32 (IntOp.maxsi 4294967169#32
      (IntOp.subi 0#32 (Scalar.select (IntOp.ori (IntOp.cmpi .eq (BitVec.ofNat 32 n.val) 0#32) (IntOp.cmpi .eq (BitVec.ofNat 32 n.val) 255#32)) 0#32 (IntOp.subi (BitVec.ofNat 32 n.val) 126#32))))) 127#32) 23#32
      = BitVec.ofNat 32 ((253 - n.val) * 2 ^ 23) := by decide +kernel

/-- The power of the exponent 0 is one, and so is that of its negation. -/
theorem two_zero : two 0#32 = 1 ∧ two (IntOp.subi 0#32 0#32) = 1 := by
  have h : two 0#32 = P 127 := rfl
  have h' : two (IntOp.subi 0#32 0#32) = P 127 := rfl
  have e : P 127 = 1 := by rw [P_coe (by norm_num) (by norm_num)]; norm_num
  exact ⟨h.trans e, h'.trans e⟩

/-- The two scales of a row agree, and so do their reciprocals: `v` is the quotient, not negative, and it is
    zero with the row's largest magnitude `a`. -/
theorem agree {a v : EReal} (hv : 0 ≤ v) (ha : a = 0 → v = 0) :
    two (expo a v) = scale v ∧ two (IntOp.subi 0#32 (expo a v)) = inv v := by
  have one_lt : (1 : EReal) < P 254 := by
    have : (1 : EReal) = P 127 := by rw [P_coe (by norm_num) (by norm_num)]; norm_num
    rw [this]; exact P_strict (by norm_num) (by norm_num)
  have div_one : Ideal.div 1 1 = 1 := by simp [Ideal.div]
  -- outside the normal range both scales are one
  have small : ∀ (_ : v < P 1 ∨ v = ⊤) , scale v = 1 ∧ inv v = 1 := by
    intro h
    have e : scale v = 1 := by
      unfold scale; rw [if_neg]; rw [least_word, inf_word]
      rintro ⟨x, y⟩
      rcases h with h | h
      · exact absurd h (not_lt.mpr x)
      · exact absurd y (by rw [h]; exact lt_irrefl _)
    refine ⟨e, ?_⟩
    unfold inv; rw [e, most_word, if_pos one_lt, div_one]
  by_cases h0 : a = 0
  · have e : expo a v = 0#32 := by
      unfold expo
      rw [cmp_oeq, show Scalar.ofBits (F := Ideal) .f32 0x00000000#32 = (0 : EReal) from Ideal.ofBits_zero _, decide_eq_true h0]; rfl
    obtain ⟨s1, s2⟩ := small (.inl (by rw [ha h0]; exact P_pos (by norm_num) (by norm_num)))
    rw [e, s1, s2]; exact two_zero
  obtain ⟨n, en, hl, hn, hu⟩ := bis_spec hv
  have e : expo a v = Scalar.select (IntOp.ori (IntOp.cmpi .eq (BitVec.ofNat 32 n) 0#32) (IntOp.cmpi .eq (BitVec.ofNat 32 n) 255#32)) 0#32 (IntOp.subi (BitVec.ofNat 32 n) 126#32) := by
    unfold expo; rw [en]
    have : FloatOps.cmpf (F := Ideal) (φ := .f32) .oeq a (Scalar.ofBits (F := Ideal) .f32 0x00000000#32) = 0#1 := by
      rw [cmp_oeq, show Scalar.ofBits (F := Ideal) .f32 0x00000000#32 = (0 : EReal) from Ideal.ofBits_zero _, decide_eq_false h0]; rfl
    rw [this]; simp [Scalar.select]
  rcases Nat.eq_zero_or_pos n with rfl | hpos
  · obtain ⟨s1, s2⟩ := small (.inl (by rcases hu with h | h; · omega
                                       · exact h))
    rw [e, s1, s2]; exact two_zero
  rcases Nat.eq_or_lt_of_le hn with rfl | hlt
  · obtain ⟨s1, s2⟩ := small (.inr (by rw [P_top] at hl; exact top_le_iff.mp hl))
    rw [e, s1, s2]; exact two_zero
  have hu' : v < P (n + 1) := by rcases hu with h | h; · omega
                                 · exact h
  have es : scale v = P (n + 1) := by
    unfold scale; rw [if_pos, above_eq hpos (by omega) hl hu']
    rw [least_word, inf_word]
    exact ⟨(P_mono hpos (by omega)).trans hl, lt_of_lt_of_le hu' le_top⟩
  obtain ⟨w1, w2⟩ := two_word ⟨n, by omega⟩ (by simpa using hpos.ne')
  simp only at w1 w2
  refine ⟨?_, ?_⟩
  · rw [e, es]; unfold two; rw [w1]; rfl
  · have ek : two (IntOp.subi 0#32 (expo a v)) = P (253 - n) := by rw [e]; unfold two; rw [w2]; rfl
    rw [ek]; unfold inv; rw [es, most_word]
    by_cases h : n + 1 < 254
    · rw [if_pos (P_strict h (by norm_num)), P_coe (by omega) (by omega), P_coe (by omega) (by omega),
        Ideal.div_coe (by positivity), one_mul, one_div, ← zpow_neg]
      congr 2; push_cast [show n ≤ 253 by omega]; ring
    · rw [if_neg (not_lt.mpr (P_mono (by omega) (by omega))), show 253 - n = 0 by omega, P_zero]

end Cert.Scale

end
-- ==== Proof.Spec.lean ====
module

public import proofs.«01_k».proof.Proof.Scale

@[expose] public section

set_option maxRecDepth 16384

noncomputable section

/-! What both programs compute of one row, over the extended reals. -/

namespace Cert.Spec

open Idealize.ShloMosaic Cert.Scale
open scoped BigOperators

/-- The largest magnitude of a row. -/
def amax (row : Fin 2432 → EReal) : EReal :=
  Finset.fold max (Ideal.ofBits .f32 4286578688#32) (fun k => FloatOps.absf (F := Ideal) (φ := .f32) (row k)) Finset.univ

/-- That magnitude over 448, by the f32 constant both programs multiply with. -/
def quot (row : Fin 2432 → EReal) : EReal := amax row * Ideal.ofBits .f32 991054117#32

/-- The row's scale. -/
def rowScale (row : Fin 2432 → EReal) : EReal := scale (quot row)

/-- Entry `k` of the row's codes. -/
def code (row : Fin 2432 → EReal) (k : Fin 2432) : EReal :=
  min (Ideal.ofBits .f32 1138753536#32) (max (Ideal.ofBits .f32 3286237184#32) (row k * inv (quot row)))

/-- One entry of the product: the row's codes against a row of weights, scaled twice. -/
def prod (row w : Fin 2432 → EReal) (ws : EReal) : EReal := (∑ k, code row k * w k) * rowScale row * ws

/-- The multiplier is positive. -/
theorem multiplier_pos : 0 < Ideal.ofBits .f32 991054117#32 := by
  simp [Ideal.ofBits, Ideal.ieee, -EReal.coe_mul]

/-- A largest magnitude is not negative. -/
theorem amax_nonneg (row : Fin 2432 → EReal) : 0 ≤ amax row := by
  unfold amax
  rw [Finset.le_fold_max]
  refine .inr ⟨0, Finset.mem_univ _, ?_⟩
  show (0 : EReal) ≤ max (row 0) (-(row 0))
  rcases le_total 0 (row 0) with h | h
  · exact le_max_of_le_left h
  · exact le_max_of_le_right (EReal.le_neg_of_le_neg (by simpa using h))

/-- The quotient is not negative. -/
theorem quot_nonneg (row : Fin 2432 → EReal) : 0 ≤ quot row := mul_nonneg (amax_nonneg row) multiplier_pos.le

/-- It is zero with the magnitude. -/
theorem quot_zero (row : Fin 2432 → EReal) (h : amax row = 0) : quot row = 0 := by unfold quot; rw [h, zero_mul]

/-- The kernel's power of two at a row's exponent is the row's scale. -/
theorem two_expo (row : Fin 2432 → EReal) : two (expo (amax row) (quot row)) = rowScale row :=
  (agree (quot_nonneg row) (quot_zero row)).1

/-- The kernel's power of two at the negated exponent is the reciprocal. -/
theorem two_neg_expo (row : Fin 2432 → EReal) : two (IntOp.subi 0#32 (expo (amax row) (quot row))) = inv (quot row) :=
  (agree (quot_nonneg row) (quot_zero row)).2

end Cert.Spec

end
-- ==== Proof.Entries.lean ====
module

public import proofs.«01_k».proof.Proof.Chunks
public import proofs.«01_k».proof.Proof.Spec

@[expose] public section

set_option maxRecDepth 16384

noncomputable section

/-! The kernel's payloads of one chunk of 256 rows, entry by entry, over the extended reals. -/

namespace Cert.KernelIdeal.Entries

open Idealize.ShloMosaic Cert.KernelIdeal Cert.KernelIdeal.Gen Cert.KernelIdeal.Chunks Cert.Scale
open scoped BigOperators

section Generic

variable {F : FTy → Type} [FloatOps F]

/-- The largest magnitude of each row. -/
def redV (x : FVec F S256x2432 .f32) : FVec F S256x1 .f32 :=
  shapeCast S256x1 (multiReduction .maximumf [1] S256 (absf x) 0xFF800000#32 reduces_S256x2432_S256 (.inl rfl) rfl) shapeCasts_S256_S256x1

/-- A column times the constant. -/
def mulV (x : FVec F S256x1 .f32) : FVec F S256x1 .f32 := mulf x (broadcast S256x1 (Scalar.ofBits .f32 0x3B124925#32))

/-- One step of the bisection, on a column. -/
def bstV (v : FVec F S256x1 .f32) (bit : BitVec 32) (b : IVec S256x1 32) : IVec S256x1 32 :=
  select (cmpf .oge v (bitcastToFloat .f32 (shli (addi b (broadcast S256x1 bit)) (broadcast S256x1 23#32)))) (addi b (broadcast S256x1 bit)) b

/-- The whole bisection, on a column. -/
def bisV (v : FVec F S256x1 .f32) : IVec S256x1 32 :=
  bstV v 1#32 (bstV v 2#32 (bstV v 4#32 (bstV v 8#32 (bstV v 16#32 (bstV v 32#32 (bstV v 64#32 (bstV v 128#32 (broadcast S256x1 0#32))))))))

/-- The exponent of a column of magnitudes `a` with biased exponents `b`. -/
def expoV (a : FVec F S256x1 .f32) (b : IVec S256x1 32) : IVec S256x1 32 :=
  select (cmpf .oeq a (broadcast S256x1 (Scalar.ofBits .f32 0x00000000#32))) (broadcast S256x1 0#32)
    (select (ori (cmpi .eq b (broadcast S256x1 0#32)) (cmpi .eq b (broadcast S256x1 255#32))) (broadcast S256x1 0#32) (subi b (broadcast S256x1 126#32)))

/-- The powers of two of a column of exponents. -/
def twoV (e : IVec S256x1 32) : FVec F S256x1 .f32 :=
  bitcastToFloat .f32 (shli (addi (minsi (broadcast S256x1 128#32) (maxsi (broadcast S256x1 4294967169#32) e)) (broadcast S256x1 127#32)) (broadcast S256x1 23#32))

/-- The codes of rows `x` by the reciprocals `r`. -/
def clipV (x : FVec F S256x2432 .f32) (r : FVec F S256x1 .f32) : FVec F S256x2432 .fp8e4m3 :=
  truncf .fp8e4m3 (minimumf (broadcast S256x2432 (Scalar.ofBits .f32 0x43E00000#32)) (maximumf (broadcast S256x2432 (Scalar.ofBits .f32 0xC3E00000#32))
    (mulf x (broadcastTo S256x2432 r broadcasts_S256x1_S256x2432)))) bitsLt_fp8e4m3_f32

/-- The printed row maximum is `redV`. -/
theorem pay4_eq (v : Vec F S256x2432 .bf16) : k0_pay4 v = redV (k0_pay3 v) := rfl
/-- The printed quotient is `mulV` of it. -/
theorem pay5_eq (v : Vec F S256x2432 .bf16) : k0_pay5 v = mulV (redV (k0_pay3 v)) := rfl
/-- The printed bisection, as one function. -/
theorem pay6_eq (v : Vec F S256x2432 .bf16) :
    k0_pay6 v = bstV (k0_pay5 v) 8#32 (bstV (k0_pay5 v) 16#32 (bstV (k0_pay5 v) 32#32 (bstV (k0_pay5 v) 64#32 (bstV (k0_pay5 v) 128#32 (broadcast S256x1 0#32))))) := rfl
/-- The printed exponent, as one function. -/
theorem pay7_eq (a v : FVec F S256x1 .f32) (b : IVec S256x1 32) :
    k0_pay7 a v b 4#32 = expoV a (bstV v 1#32 (bstV v 2#32 (bstV v 4#32 b))) := rfl
/-- The printed scale is the power of two of the exponent. -/
theorem pay8_eq (a v : FVec F S256x1 .f32) (b : IVec S256x1 32) : k0_pay8 a v b 4#32 = twoV (k0_pay7 a v b 4#32) := rfl
/-- The printed codes, as one function. -/
theorem pay10_eq (x : FVec F S256x2432 .f32) (e : IVec S256x1 32) : k0_pay10 x e k0_pay9 = clipV x (twoV (subi (broadcast S256x1 0#32) e)) := rfl

/-- The exponents of a chunk. -/
theorem exK_eq (v : Vec F S256x2432 .bf16) : exK v = expoV (redV (k0_pay3 v)) (bisV (mulV (redV (k0_pay3 v)))) := by
  unfold exK
  rw [pay7_eq, pay6_eq, pay5_eq, pay4_eq]
  rfl

/-- The scales of a chunk. -/
theorem sclK_eq (v : Vec F S256x2432 .bf16) : sclK v = twoV (exK v) := by
  unfold sclK exK
  rw [pay8_eq]

/-- The codes of a chunk. -/
theorem codesK_eq (v : Vec F S256x2432 .bf16) : codesK v = clipV (k0_pay3 v) (twoV (subi (broadcast S256x1 0#32) (exK v))) := by
  unfold codesK
  rw [pay10_eq]

end Generic

/-- One step of the bisection, at an entry. -/
theorem bst_apply (v : FVec Ideal S256x1 .f32) (bit : BitVec 32) (b : IVec S256x1 32) (j : S256x1.Idx) : bstV v bit b j = bst (v j) bit (b j) := rfl

/-- The bisection, at an entry. -/
theorem bis_apply (v : FVec Ideal S256x1 .f32) (j : S256x1.Idx) : bisV v j = bis (v j) := by
  unfold bisV bis
  simp only [bst_apply]
  rfl

/-- The exponent, at an entry. -/
theorem expo_apply (a v : FVec Ideal S256x1 .f32) (j : S256x1.Idx) : expoV a (bisV v) j = expo (a j) (v j) := by
  unfold expo
  rw [← bis_apply]
  rfl

/-- The power of two, at an entry. -/
theorem two_apply (e : IVec S256x1 32) (j : S256x1.Idx) : twoV (F := Ideal) e j = two (e j) := rfl

/-- The chunk in f32 has the chunk's entries. -/
theorem pay3_apply (x : Vec Ideal S256x2432 .bf16) (a : Fin 256) (k : Fin 2432) : k0_pay3 (F := Ideal) x (ix2 a k) = x (ix2 a k) := by
  pointwise [k0_pay3]

/-- The row maximum, at a row. -/
theorem red_apply (x : FVec Ideal S256x2432 .f32) (a : Fin 256) : redV (F := Ideal) x (ix2 a 0) = Spec.amax fun k => x (ix2 a k) := by
  unfold Spec.amax
  pointwise [redV]

/-- The quotient, at a row. -/
theorem mul_apply (x : FVec Ideal S256x1 .f32) (a : Fin 256) : mulV (F := Ideal) x (ix2 a 0) = x (ix2 a 0) * Ideal.ofBits .f32 991054117#32 := by
  pointwise [mulV]

/-- The clipped codes, at an entry. -/
theorem clip_apply (x : FVec Ideal S256x2432 .f32) (r : FVec Ideal S256x1 .f32) (a : Fin 256) (k : Fin 2432) :
    clipV (F := Ideal) x r (ix2 a k) = min (Ideal.ofBits .f32 1138753536#32) (max (Ideal.ofBits .f32 3286237184#32) (x (ix2 a k) * r (ix2 a 0))) := by
  pointwise [clipV]

/-- The exponent of row `a` of a chunk. -/
theorem exK_apply (x : Vec Ideal S256x2432 .bf16) (a : Fin 256) :
    exK (F := Ideal) x (ix2 a 0) = expo (Spec.amax fun k => x (ix2 a k)) (Spec.quot fun k => x (ix2 a k)) := by
  rw [exK_eq, expo_apply, mul_apply, red_apply]
  simp only [pay3_apply]
  rfl

/-- The scale of row `a` of a chunk. -/
theorem sclK_apply (x : Vec Ideal S256x2432 .bf16) (a : Fin 256) : sclK (F := Ideal) x (ix2 a 0) = Spec.rowScale fun k => x (ix2 a k) := by
  rw [sclK_eq, two_apply, exK_apply, Spec.two_expo]

/-- The codes of a chunk. -/
theorem codesK_apply (x : Vec Ideal S256x2432 .bf16) (a : Fin 256) (k : Fin 2432) :
    codesK (F := Ideal) x (ix2 a k) = Spec.code (fun k => x (ix2 a k)) k := by
  rw [codesK_eq, clip_apply, two_apply, pay3_apply]
  show min _ (max _ (x (ix2 a k) * two (IntOp.subi 0#32 (exK (F := Ideal) x (ix2 a 0))))) = _
  rw [exK_apply, Spec.two_neg_expo]
  rfl

/-- A column spread along the lanes, at an entry. -/
theorem pay12_apply (s : FVec Ideal S256x1 .f32) (a : Fin 256) (l : Fin 128) : k0_pay12 (F := Ideal) s (ix2 a l) = s (ix2 a 0) := by
  pointwise [k0_pay12, k0_pay11]

/-- A column turned into a row, at an entry. -/
theorem pay13_apply (s : FVec Ideal S256x1 .f32) (a : Fin 256) : k0_pay13 (F := Ideal) s (ix3 0 0 a) = s (ix2 a 0) := by
  pointwise [k0_pay13, k0_pay11]

/-- The scales of a chunk, repeated along the lanes. -/
theorem colK_apply (x : Vec Ideal S256x2432 .bf16) (a : Fin 256) (l : Fin 128) : colK (F := Ideal) x (ix2 a l) = Spec.rowScale fun k => x (ix2 a k) := by
  unfold colK
  rw [pay12_apply, sclK_apply]

/-- The scales of a chunk, as a row. -/
theorem rowK_apply (x : Vec Ideal S256x2432 .bf16) (a : Fin 256) : rowK (F := Ideal) x (ix3 0 0 a) = Spec.rowScale fun k => x (ix2 a k) := by
  unfold rowK
  rw [pay13_apply, sclK_apply]

/-- The product of a chunk of codes with a block of weights, when the scales `s` are the same on every lane. -/
theorem yK_apply (ws : Vec Ideal S512 .f32) (q : Vec Ideal S256x2432 .fp8e4m3) (w : Vec Ideal S512x2432 .fp8e4m3) (s : Vec Ideal S256x128 .f32)
    (S : Fin 256 → EReal) (hs : ∀ a l, s (ix2 a l) = S a) (a : Fin 32) (b : Fin 8) (n : Fin 512) :
    yK (F := Ideal) ws q w s (ix3 a b n)
      = (∑ k : Fin 2432, q (ix2 ⟨a.val * 8 + b.val, by omega⟩ k) * w (ix2 n k)) * S ⟨a.val * 8 + b.val, by omega⟩ * ws (ix1 n) := by
  unfold yK
  pointwise [k0_pay84, k0_pay83]
  simp only [hs]
  split_ifs <;> rfl

end Cert.KernelIdeal.Entries

end
-- ==== Proof.Rows.lean ====
module

public import Idealize.ShloMosaic.Lib.Pointwise

@[expose] public section

noncomputable section

/-! How the 1536 rows are numbered: row `s` of batch `b` is row `512 * b + s`, and row `r` is row `r % 8` of group `r / 8`. -/

namespace Cert.Rows

open Idealize.ShloMosaic

/-- Row `s` of batch `b`. -/
def rowOf (b : Fin 3) (s : Fin 512) : Fin 1536 := ⟨b.val * 512 + s.val, by omega⟩

/-- The group of eight rows that row `r` lies in, -/
def grp (r : Fin 1536) : Fin 192 := ⟨r.val / 8, by omega⟩

/-- and its place there. -/
def sub (r : Fin 1536) : Fin 8 := ⟨r.val % 8, Nat.mod_lt _ (by norm_num)⟩

/-- Rows in one line, reshaped to batches: entry (b, s, n) is row `rowOf b s`, column n. -/
theorem batches_apply {α : Type} {N : ℕ} (y : (⟨2, ![1536, N]⟩ : Shape).Idx → α)
    (h : (⟨2, ![1536, N]⟩ : Shape).ShapeCasts ⟨3, ![3, 512, N]⟩) (b : Fin 3) (s : Fin 512) (n : Fin N) :
    shapeCast ⟨3, ![3, 512, N]⟩ y h (ix3 b s n) = y (ix2 (rowOf b s) n) := by
  refine congrArg y (Shape.reshapeEquiv_eq_of_rowMajor h ?_)
  rw [Shape.rowMajor_val_two, Shape.rowMajor_val_three]
  rfl

/-- Rows in groups of eight, reshaped to batches. -/
theorem groups_apply {α : Type} {N : ℕ} (y : (⟨3, ![192, 8, N]⟩ : Shape).Idx → α)
    (h : (⟨3, ![192, 8, N]⟩ : Shape).ShapeCasts ⟨3, ![3, 512, N]⟩) (b : Fin 3) (s : Fin 512) (n : Fin N) :
    shapeCast ⟨3, ![3, 512, N]⟩ y h (ix3 b s n) = y (ix3 (grp (rowOf b s)) (sub (rowOf b s)) n) := by
  refine congrArg y (Shape.reshapeEquiv_eq_of_rowMajor h ?_)
  rw [Shape.rowMajor_val_three, Shape.rowMajor_val_three]
  show ((b.val * 512 + s.val) / 8 * 8 + (b.val * 512 + s.val) % 8) * N + n.val = (b.val * 512 + s.val) * N + n.val
  rw [Nat.div_add_mod']

/-- One entry for each row, a line for each batch, reshaped to a column for each batch. -/
theorem column_apply {α : Type} (y : (⟨3, ![3, 1, 512]⟩ : Shape).Idx → α)
    (h : (⟨3, ![3, 1, 512]⟩ : Shape).ShapeCasts ⟨3, ![3, 512, 1]⟩) (b : Fin 3) (s : Fin 512) :
    shapeCast ⟨3, ![3, 512, 1]⟩ y h (ix3 b s 0) = y (ix3 b 0 s) := by
  refine congrArg y (Shape.reshapeEquiv_eq_of_rowMajor h ?_)
  rw [Shape.rowMajor_val_three, Shape.rowMajor_val_three]
  show (b.val * 1 + 0) * 512 + s.val = (b.val * 512 + s.val) * 1 + 0
  omega

end Cert.Rows

end
-- ==== Proof.IdealValue.lean ====
module

public import proofs.«01_k».proof.Proof.Arrays
public import proofs.«01_k».proof.Proof.Entries
public import proofs.«01_k».proof.Proof.Rows

@[expose] public section

set_option maxRecDepth 16384

noncomputable section

/-! The kernel's whole arrays, entry by entry, over the extended reals. -/

namespace Cert.KernelIdeal.Own

open Cert.KernelIdeal Cert.KernelIdeal.Gen Cert.KernelIdeal.Blocks Cert.KernelIdeal.Entries Cert.Rows
open Idealize.ShloMosaic Idealize.ShloMosaic.TcCoe
open scoped BigOperators

/-- Row `a` of chunk `j` is row `r` of the array when `256 * j + a = r`. -/
theorem rowsAt_apply {e : EltTy} (x : Vec Ideal S1536x2432 e) (j : Fin 6) (a : Fin 256) (r : Fin 1536) (h : 256 * j.val + a.val = r.val) (k : Fin 2432) :
    rowsAt x j (ix2 a k) = x (ix2 r k) :=
  congrArg (fun z => x (ix2 z k)) (Fin.ext h)

/-- The same of the columns of scales. -/
theorem colsAt_apply {e : EltTy} (x : Vec Ideal S1536x128 e) (j : Fin 6) (a : Fin 256) (r : Fin 1536) (h : 256 * j.val + a.val = r.val) (k : Fin 128) :
    colsAt x j (ix2 a k) = x (ix2 r k) :=
  congrArg (fun z => x (ix2 z k)) (Fin.ext h)

/-- The codes of row `r`. -/
theorem CODES_apply (x : Vec Ideal S1536x2432 .bf16) (r : Fin 1536) (k : Fin 2432) : CODES x (ix2 r k) = Spec.code (fun k => x (ix2 r k)) k := by
  refine (codesK_apply _ _ k).trans (congrArg (fun f => Spec.code f k) (funext fun k => ?_))
  exact rowsAt_apply x _ _ r (Nat.div_add_mod _ _) k

/-- The scale of row `r`, on every lane. -/
theorem SCOL_apply (x : Vec Ideal S1536x2432 .bf16) (r : Fin 1536) (l : Fin 128) : SCOL x (ix2 r l) = Spec.rowScale fun k => x (ix2 r k) := by
  refine (colK_apply _ _ l).trans (congrArg Spec.rowScale (funext fun k => ?_))
  exact rowsAt_apply x _ _ r (Nat.div_add_mod _ _) k

/-- The scale of row `s` of batch `b`, among the results. -/
theorem SCALE_apply (x : Vec Ideal S1536x2432 .bf16) (b : Fin 3) (s : Fin 512) : SCALE x (ix3 b 0 s) = Spec.rowScale fun k => x (ix2 (rowOf b s) k) := by
  refine (rowK_apply _ _).trans (congrArg Spec.rowScale (funext fun k => ?_))
  refine rowsAt_apply x _ _ (rowOf b s) ?_ k
  show 256 * (2 * b.val + s.val / 256) + s.val % 256 = b.val * 512 + s.val
  omega

/-- One entry of a block of the result: row `r`, column `n` of the block. -/
theorem YB_apply (ws : Vec Ideal S512 .f32) (x : Vec Ideal S1536x2432 .bf16) (w : Vec Ideal S512x2432 .fp8e4m3) (r : Fin 1536) (n : Fin 512) :
    YB ws (CODES x) w (SCOL x) (ix3 (grp r) (sub r) n)
      = Spec.prod (fun k => x (ix2 r k)) (fun k => w (ix2 n k)) (ws (ix1 n)) := by
  have hr : 256 * (r.val / 8 / 32) + (r.val / 8 % 32 * 8 + r.val % 8) = r.val := by omega
  refine (yK_apply ws _ w _ (fun a => colsAt (SCOL x) ⟨r.val / 8 / 32, by omega⟩ (ix2 a 0)) (fun a l => ?_) _ _ n).trans ?_
  · exact (SCOL_apply x _ l).trans (SCOL_apply x _ 0).symm
  · unfold Spec.prod
    refine congrArg₂ (fun p q => p * q * ws (ix1 n)) (Finset.sum_congr rfl fun k _ => congrArg (· * w (ix2 n k)) ?_) ?_
    · exact (rowsAt_apply (CODES x) _ _ r hr k).trans (CODES_apply x r k)
    · exact (colsAt_apply (SCOL x) _ _ r hr 0).trans (SCOL_apply x r 0)

variable (m : (ℓ : Loc nD τ sig) → Buf (Elt Ideal) ℓ)

/-- One entry of the whole result: row `r`, column `n`. -/
theorem YARR_apply (c : Dev nD) (r : Fin 1536) (n : Fin 9728) :
    YARR m c (ix3 (grp r) (sub r) n)
      = Spec.prod (fun k => X0 m c (ix2 r k)) (fun k => (m ((c : Thread nD τ).loc main_arg1) : Vec Ideal S9728x2432 .fp8e4m3) (ix2 n k))
          ((m ((c : Thread nD τ).loc main_arg2) : Vec Ideal S9728 .f32) (ix1 n)) := by
  have hn : ∀ h h', colOf ⟨n.val / 512, h⟩ ⟨n.val % 512, h'⟩ = n := fun h h' => Fin.ext (Nat.div_add_mod _ _)
  refine (YB_apply _ (X0 m c) _ r _).trans ?_
  refine congrArg₂ (Spec.prod fun k => X0 m c (ix2 r k)) (funext fun k => ?_) ?_
  · exact (iblk1_apply m c _ _ k).trans
      (congrArg (fun z => (m ((c : Thread nD τ).loc main_arg1) : Vec Ideal S9728x2432 .fp8e4m3) (ix2 z k)) (hn _ _))
  · exact (ws_apply m c _ _).trans
      (congrArg (fun z => (m ((c : Thread nD τ).loc main_arg2) : Vec Ideal S9728 .f32) (ix1 z)) (hn _ _))

end Cert.KernelIdeal.Own

end
-- ==== Proof.RefValue.lean ====
module

public import proofs.«01_k».proof.Proof.Gen.ReferenceIdeal.Skeleton
public import proofs.«01_k».proof.Proof.Spec

@[expose] public section

set_option maxRecDepth 16384

noncomputable section

/-! The reference's payloads, entry by entry, over the extended reals. -/

namespace Cert.ReferenceIdeal.Entries

open Idealize.ShloMosaic Cert.ReferenceIdeal Cert.ReferenceIdeal.Gen
open scoped BigOperators

section Generic

variable {F : FTy → Type} [FloatOps F]

/-- The largest entry of each row. -/
def redV (x : FVec F S1536x2432 .f32) : FVec F S1536x1 .f32 :=
  shapeCast S1536x1 (multiReduction .maximumf [1] S1536 (absf x) 0xFF800000#32 reduces_S1536x2432_S1536 (.inl rfl) rfl) shapeCasts_S1536_S1536x1

/-- A column times the constant. -/
def mulV (x : FVec F S1536x1 .f32) : FVec F S1536x1 .f32 := mulf x (broadcast S1536x1 (Scalar.ofBits .f32 0x3B124925#32))

/-- The powers of two from 2^-126 to 2^127. -/
def powV : FVec F S1x254 .f32 := exp2 (sitofp .f32 (subi (iota .tc S1x254 32 [1] iota_S1x254_d1_w32) (broadcast S1x254 126#32)))

/-- Each row's table: the powers above its quotient, infinity for the others. -/
def tabV (v : FVec F S1536x1 .f32) (p : FVec F S1x254 .f32) : FVec F S1536x254 .f32 :=
  select (cmpf .olt (broadcastTo S1536x254 v broadcasts_S1536x1_S1536x254) (broadcastTo S1536x254 p broadcasts_S1x254_S1536x254))
    (broadcastTo S1536x254 (shapeCast S1x254 p shapeCasts_S1x254_S1x254) broadcasts_S1x254_S1536x254) (broadcast S1536x254 (Scalar.ofBits .f32 0x7F800000#32))

/-- The least entry of each row of the table. -/
def minV (t : FVec F S1536x254 .f32) : FVec F S1536x1 .f32 :=
  shapeCast S1536x1 (multiReduction .minimumf [1] S1536 t 0x7F800000#32 reduces_S1536x254_S1536 (.inl rfl) rfl) shapeCasts_S1536_S1536x1

/-- The scale: the table's answer inside the normal range, one outside. -/
def pickV (v s : FVec F S1536x1 .f32) : FVec F S1536x1 .f32 :=
  select (andi (cmpf .oge v (broadcast S1536x1 (Scalar.ofBits .f32 0x00800000#32))) (cmpf .olt v (broadcast S1536x1 (Scalar.ofBits .f32 0x7F800000#32))))
    s (broadcast S1536x1 (Scalar.ofBits .f32 0x3F800000#32))

/-- The codes of rows `x` at the scales `s`. -/
def codesV (x : FVec F S1536x2432 .f32) (s : FVec F S1536x1 .f32) : FVec F S1536x2432 .fp8e4m3 :=
  truncf .fp8e4m3 (minimumf (broadcast S1536x2432 (Scalar.ofBits .f32 0x43E00000#32)) (maximumf (broadcast S1536x2432 (Scalar.ofBits .f32 0xC3E00000#32))
    (mulf x (broadcastTo S1536x2432 (select (cmpf .olt s (broadcast S1536x1 (Scalar.ofBits .f32 0x7F000000#32)))
      (divf (broadcast S1536x1 (Scalar.ofBits .f32 0x3F800000#32)) s) (broadcast S1536x1 (Scalar.ofBits .f32 0x00000000#32))) broadcasts_S1536x1_S1536x2432)))) bitsLt_fp8e4m3_f32

/-- The scale payload is these steps. -/
theorem pay3_eq (x : Vec F S1536x2432 .bf16) :
    k0_pay3 x = pickV (mulV (redV (k0_pay2 x))) (minV (tabV (mulV (redV (k0_pay2 x))) powV)) := rfl

/-- The codes payload is the last step. -/
theorem pay4_eq (x : Vec F S1536x2432 .bf16) : k0_pay4 x = codesV (k0_pay2 x) (k0_pay3 x) := rfl

end Generic

/-- The rows in f32 have the entries of `x`. -/
theorem pay2_apply (x : Vec Ideal S1536x2432 .bf16) (a : Fin 1536) (k : Fin 2432) : k0_pay2 (F := Ideal) x (ix2 a k) = x (ix2 a k) := by
  pointwise [k0_pay2]

/-- The row maximum, at a row. -/
theorem red_apply (x : FVec Ideal S1536x2432 .f32) (a : Fin 1536) : redV (F := Ideal) x (ix2 a 0) = Spec.amax fun k => x (ix2 a k) := by
  unfold Spec.amax
  pointwise [redV]

/-- The quotient, at a row. -/
theorem mul_apply (x : FVec Ideal S1536x1 .f32) (a : Fin 1536) : mulV (F := Ideal) x (ix2 a 0) = x (ix2 a 0) * Ideal.ofBits .f32 991054117#32 := by
  pointwise [mulV]

/-- The table's powers, at an entry. -/
theorem pow_apply (k : Fin 254) : powV (F := Ideal) (ix2 0 k) = FloatOps.exp2 (F := Ideal) (φ := .f32) (FloatOps.sitofp (F := Ideal) .f32 (IntOp.subi (BitVec.ofNat 32 k.val) 126#32)) := by
  pointwise [powV]

/-- A row's table, at an entry. -/
theorem tab_apply (v : FVec Ideal S1536x1 .f32) (p : FVec Ideal S1x254 .f32) (a : Fin 1536) (k : Fin 254) :
    tabV (F := Ideal) v p (ix2 a k) = if v (ix2 a 0) < p (ix2 0 k) then p (ix2 0 k) else Ideal.ofBits .f32 2139095040#32 := by
  pointwise [tabV]

/-- The least entry of a row's table. -/
theorem min_apply (t : FVec Ideal S1536x254 .f32) (a : Fin 1536) :
    minV (F := Ideal) t (ix2 a 0) = Finset.fold min (Ideal.ofBits .f32 2139095040#32) (fun k => t (ix2 a k)) Finset.univ := by
  pointwise [minV]

/-- The scale, at a row. -/
theorem pick_apply (v s : FVec Ideal S1536x1 .f32) (a : Fin 1536) :
    pickV (F := Ideal) v s (ix2 a 0)
      = if Ideal.ofBits .f32 8388608#32 ≤ v (ix2 a 0) ∧ v (ix2 a 0) < Ideal.ofBits .f32 2139095040#32 then s (ix2 a 0) else 1 := by
  pointwise [pickV]
  generalize v (ix2 a 0) = r
  by_cases h1 : Ideal.ofBits .f32 8388608#32 ≤ r <;> by_cases h2 : r < Ideal.ofBits .f32 2139095040#32 <;>
    simp only [h1, h2, decide_true, decide_false, and_self, and_true, and_false, if_true, if_false] <;> rfl

/-- The clipped codes, at an entry. -/
theorem codes_apply (x : FVec Ideal S1536x2432 .f32) (s : FVec Ideal S1536x1 .f32) (a : Fin 1536) (k : Fin 2432) :
    codesV (F := Ideal) x s (ix2 a k) = min (Ideal.ofBits .f32 1138753536#32) (max (Ideal.ofBits .f32 3286237184#32)
        (x (ix2 a k) * if s (ix2 a 0) < Ideal.ofBits .f32 2130706432#32 then Ideal.div 1 (s (ix2 a 0)) else 0)) := by
  pointwise [codesV]

/-- The quotient of row `a`. -/
theorem quot_apply (x : Vec Ideal S1536x2432 .bf16) (a : Fin 1536) :
    mulV (F := Ideal) (redV (k0_pay2 x)) (ix2 a 0) = Spec.quot fun k => x (ix2 a k) := by
  rw [mul_apply, red_apply]
  simp only [pay2_apply]
  rfl

/-- The reference's scale of row `a`. -/
theorem scale_apply (x : Vec Ideal S1536x2432 .bf16) (a : Fin 1536) :
    k0_pay3 (F := Ideal) x (ix2 a 0) = Spec.rowScale fun k => x (ix2 a k) := by
  rw [pay3_eq, pick_apply, min_apply, quot_apply]
  simp only [tab_apply, pow_apply, quot_apply]
  rfl

/-- The reference's codes. -/
theorem code_apply (x : Vec Ideal S1536x2432 .bf16) (a : Fin 1536) (k : Fin 2432) :
    k0_pay4 (F := Ideal) x (ix2 a k) = Spec.code (fun k => x (ix2 a k)) k := by
  rw [pay4_eq, codes_apply, scale_apply, pay2_apply]
  rfl

/-- The scaled product, at an entry. -/
theorem prod_apply (s : FVec Ideal S1536x1 .f32) (q : FVec Ideal S1536x2432 .fp8e4m3) (w : Vec Ideal S9728x2432 .fp8e4m3) (ws : Vec Ideal S9728 .f32)
    (a : Fin 1536) (n : Fin 9728) :
    k0_pay1 (F := Ideal) s q w ws (ix2 a n) = (∑ k : Fin 2432, q (ix2 a k) * w (ix2 n k)) * s (ix2 a 0) * ws (ix1 n) := by
  pointwise [k0_pay1]

/-- The reference's product. -/
theorem y_apply (x : Vec Ideal S1536x2432 .bf16) (w : Vec Ideal S9728x2432 .fp8e4m3) (ws : Vec Ideal S9728 .f32) (a : Fin 1536) (n : Fin 9728) :
    k0_pay1 (F := Ideal) (k0_pay3 x) (k0_pay4 x) w ws (ix2 a n)
      = Spec.prod (fun k => x (ix2 a k)) (fun k => w (ix2 n k)) (ws (ix1 n)) := by
  rw [prod_apply, scale_apply]
  simp only [code_apply]
  rfl

end Cert.ReferenceIdeal.Entries

end
-- ==== Proof.RefArrays.lean ====
module

public import proofs.«01_k».proof.Proof.Gen.ReferenceIdeal.Frame
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.RefValue
public import Idealize.ShloMosaic.Lib.Pipeline.ValueKit
public import Idealize.ShloMosaic.Lib.Claim
public import Idealize.ShloMosaic.Lib.Pipeline.TableIdle

@[expose] public section

set_option maxRecDepth 16384

noncomputable section

/-! What the reference's results hold after the run, as whole arrays. -/

namespace Cert.ReferenceIdeal.Own

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The rows of `x`, as the reference reads them. -/
def X (c : Dev nD) : Vec F S1536x2432 .bf16 := shapeCast S1536x2432 (m ((c : Thread nD τ).loc main_arg0)) shapeCasts_S3x512x2432_S1536x2432

/-- The region finds `x` as these rows. -/
theorem V_v0 (c : Dev nD) : V m c main_v0 = X m c := by
  entry_read
  rfl

/-! Every window has one block, the whole array. -/

/-- Window 0 has one block, -/
theorem index0 : ∀ t : Fin cfg0.N, ∀ a, win0_0.index t a = 0 := (by decide +kernel : ∀ t : Fin grid0.N, _)
/-- which is the whole array. -/
theorem emb0 (t : Fin cfg0.N) (y : S1536x2432.Idx) : ((cfg0.win 0).blk t).view.emb y = y := by
  funext a
  apply Fin.ext
  blk_simp
  rw [index0, Nat.zero_mul, Nat.zero_add]

/-- Window 1 has one block, -/
theorem index1 : ∀ t : Fin cfg0.N, ∀ a, win0_1.index t a = 0 := (by decide +kernel : ∀ t : Fin grid0.N, _)
/-- which is the whole array. -/
theorem emb1 (t : Fin cfg0.N) (y : S9728x2432.Idx) : ((cfg0.win 1).blk t).view.emb y = y := by
  funext a
  apply Fin.ext
  blk_simp
  rw [index1, Nat.zero_mul, Nat.zero_add]

/-- Window 2 has one block, -/
theorem index2 : ∀ t : Fin cfg0.N, ∀ a, win0_2.index t a = 0 := (by decide +kernel : ∀ t : Fin grid0.N, _)
/-- which is the whole array. -/
theorem emb2 (t : Fin cfg0.N) (y : S9728.Idx) : ((cfg0.win 2).blk t).view.emb y = y := by
  funext a
  apply Fin.ext
  blk_simp
  rw [index2, Nat.zero_mul, Nat.zero_add]

/-- Window 3 has one block, -/
theorem index3 : ∀ t : Fin cfg0.N, ∀ a, win0_3.index t a = 0 := (by decide +kernel : ∀ t : Fin grid0.N, _)
/-- which is the whole array. -/
theorem emb3 (t : Fin cfg0.N) (y : S1536x9728.Idx) : ((cfg0.win 3).blk t).view.emb y = y := by
  funext a
  apply Fin.ext
  blk_simp
  rw [index3, Nat.zero_mul, Nat.zero_add]

/-- Window 4 has one block, -/
theorem index4 : ∀ t : Fin cfg0.N, ∀ a, win0_4.index t a = 0 := (by decide +kernel : ∀ t : Fin grid0.N, _)
/-- which is the whole array. -/
theorem emb4 (t : Fin cfg0.N) (y : S1536x2432.Idx) : ((cfg0.win 4).blk t).view.emb y = y := by
  funext a
  apply Fin.ext
  blk_simp
  rw [index4, Nat.zero_mul, Nat.zero_add]

/-- Window 5 has one block, -/
theorem index5 : ∀ t : Fin cfg0.N, ∀ a, win0_5.index t a = 0 := (by decide +kernel : ∀ t : Fin grid0.N, _)
/-- which is the whole array. -/
theorem emb5 (t : Fin cfg0.N) (y : S1536x1.Idx) : ((cfg0.win 5).blk t).view.emb y = y := by
  funext a
  apply Fin.ext
  blk_simp
  rw [index5, Nat.zero_mul, Nat.zero_add]

/-- The body reads all rows of `x`, -/
theorem blk0_eq (c : Dev nD) (t : Fin cfg0.N) : (iblk m c 0 t : Vec F S1536x2432 .bf16) = X m c := by
  refine Eq.trans (funext fun y => ?_) (V_v0 m c)
  show V m c main_v0 (((cfg0.win 0).blk t).view.emb y) = V m c main_v0 y
  rw [emb0]

/-- all of `w` -/
theorem blk1_eq (c : Dev nD) (t : Fin cfg0.N) : (iblk m c 1 t : Vec F S9728x2432 .fp8e4m3) = m ((c : Thread nD τ).loc main_arg1) := by
  refine Eq.trans (funext fun y => ?_) (V_main_arg1 m c)
  show V m c main_arg1 (((cfg0.win 1).blk t).view.emb y) = V m c main_arg1 y
  rw [emb1]

/-- and all of its scales. -/
theorem blk2_eq (c : Dev nD) (t : Fin cfg0.N) : (iblk m c 2 t : Vec F S9728 .f32) = m ((c : Thread nD τ).loc main_arg2) := by
  refine Eq.trans (funext fun y => ?_) (V_main_arg2 m c)
  show V m c main_arg2 (((cfg0.win 2).blk t).view.emb y) = V m c main_arg2 y
  rw [emb2]

/-- The body's scales and codes are those of its rows. -/
theorem pay5_eq (x : Vec F S1536x2432 .bf16) (w : Vec F S9728x2432 .fp8e4m3) (ws : Vec F S9728 .f32) : k0_pay5 x w ws = k0_pay3 x := by
  unfold k0_pay5
  rw [View.ld_unit_zero (by decide)]
/-- The codes likewise. -/
theorem pay6_eq (x : Vec F S1536x2432 .bf16) (w : Vec F S9728x2432 .fp8e4m3) (ws : Vec F S9728 .f32) : k0_pay6 x w ws = k0_pay4 x := by
  unfold k0_pay6
  rw [View.ld_unit_zero (by decide)]

/-- The array of the products, -/
theorem final3 (c : Dev nD) : (dats m 0 c).arrAt 3 cfg0.N = k0_pay1 (k0_pay3 (X m c)) (k0_pay4 (X m c)) (m ((c : Thread nD τ).loc main_arg1)) (m ((c : Thread nD τ).loc main_arg2)) := by
  refine (dats m 0 c).arrAt_eq_of_covers 3 (k0_pay1 (k0_pay3 (X m c)) (k0_pay4 (X m c)) (m ((c : Thread nD τ).loc main_arg1)) (m ((c : Thread nD τ).loc main_arg2))) (by decide +kernel) fun t hf y => ?_
  blk_simp
  rw [after0_3]
  frame_out
  rw [pay5_eq, pay6_eq, blk0_eq, blk1_eq, blk2_eq]
  exact (congrArg _ (emb3 t y)).symm

/-- of the codes, -/
theorem final4 (c : Dev nD) : (dats m 0 c).arrAt 4 cfg0.N = k0_pay4 (X m c) := by
  refine (dats m 0 c).arrAt_eq_of_covers 4 (k0_pay4 (X m c)) (by decide +kernel) fun t hf y => ?_
  blk_simp
  rw [after0_4]
  frame_out
  rw [pay6_eq, blk0_eq]
  exact (congrArg _ (emb4 t y)).symm

/-- and of the scales. -/
theorem final5 (c : Dev nD) : (dats m 0 c).arrAt 5 cfg0.N = k0_pay3 (X m c) := by
  refine (dats m 0 c).arrAt_eq_of_covers 5 (k0_pay3 (X m c)) (by decide +kernel) fun t hf y => ?_
  blk_simp
  rw [after0_5]
  frame_out
  rw [pay5_eq, blk0_eq]
  exact (congrArg _ (emb5 t y)).symm

/-- Result 2 is the array of window 3, reshaped. -/
theorem tail_v2 (c : Dev nD) :
    Pipeline.afterTail₀ cfgs (dats m) 0 (V0 m) [hostOps1] c main_v2 = shapeCast S3x512x9728 (k0_pay1 (k0_pay3 (X m c)) (k0_pay4 (X m c)) (m ((c : Thread nD τ).loc main_arg1)) (m ((c : Thread nD τ).loc main_arg2))) shapeCasts_S1536x9728_S3x512x9728 := by
  unfold Pipeline.afterTail₀
  simp only [hostOps1, List.flatten_cons, List.flatten_nil, List.append_nil]
  after_results
  rw [Pipeline.withArrays_arr (win := spec0) (by decide) c (V0 m c) (fun w => (dats m 0 c).arrAt w (cfgs 0).N) 3]
  exact congrArg (fun z => shapeCast S3x512x9728 z shapeCasts_S1536x9728_S3x512x9728) (final3 m c)

/-- Result 3 is the array of window 4, reshaped. -/
theorem tail_v3 (c : Dev nD) :
    Pipeline.afterTail₀ cfgs (dats m) 0 (V0 m) [hostOps1] c main_v3 = shapeCast S3x512x2432 (k0_pay4 (X m c)) shapeCasts_S1536x2432_S3x512x2432 := by
  unfold Pipeline.afterTail₀
  simp only [hostOps1, List.flatten_cons, List.flatten_nil, List.append_nil]
  after_results
  rw [Pipeline.withArrays_arr (win := spec0) (by decide) c (V0 m c) (fun w => (dats m 0 c).arrAt w (cfgs 0).N) 4]
  exact congrArg (fun z => shapeCast S3x512x2432 z shapeCasts_S1536x2432_S3x512x2432) (final4 m c)

/-- Result 4 is the array of window 5, reshaped. -/
theorem tail_v4 (c : Dev nD) :
    Pipeline.afterTail₀ cfgs (dats m) 0 (V0 m) [hostOps1] c main_v4 = shapeCast S3x512x1 (k0_pay3 (X m c)) shapeCasts_S1536x1_S3x512x1 := by
  unfold Pipeline.afterTail₀
  simp only [hostOps1, List.flatten_cons, List.flatten_nil, List.append_nil]
  after_results
  rw [Pipeline.withArrays_arr (win := spec0) (by decide) c (V0 m c) (fun w => (dats m 0 c).arrAt w (cfgs 0).N) 5]
  exact congrArg (fun z => shapeCast S3x512x1 z shapeCasts_S1536x1_S3x512x1) (final5 m c)

end Cert.ReferenceIdeal.Own

end
-- ==== Proof.Equal.lean ====
module

public import proofs.«01_k».proof.Defs
public import proofs.«01_k».proof.Proof.IdealValue
public import proofs.«01_k».proof.Proof.RefArrays
public import Idealize.ShloMosaic.Lib.Claim

@[expose] public section

set_option maxRecDepth 16384

noncomputable section

/-! The kernel and the reference leave the same three results, over the extended reals. -/

namespace Cert.Equal

open Idealize.ShloMosaic Idealize.SL.Sem Idealize.ShloMosaic.TcCoe Cert.Rows

/-- From the same `x` both programs read the same rows. -/
theorem rows_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0)
      = m ((c.tc : Thread KernelIdeal.nD KernelIdeal.τ).loc KernelIdeal.main_arg0)) :
    ReferenceIdeal.Own.X m' c = KernelIdeal.Own.X0 m c := by
  rw [KernelIdeal.Own.X0_eq]
  exact congrArg (fun z => shapeCast ReferenceIdeal.S1536x2432 z ReferenceIdeal.Gen.shapeCasts_S3x512x2432_S1536x2432) h

/-- The products: equal when the reference's rows, weights and weight scales are the kernel's. -/
theorem y_eq (m : (ℓ : Loc KernelIdeal.nD KernelIdeal.τ KernelIdeal.sig) → Buf (Elt Ideal) ℓ) (c : Dev KernelIdeal.nD)
    (X : Vec Ideal ReferenceIdeal.S1536x2432 .bf16) (w : Vec Ideal ReferenceIdeal.S9728x2432 .fp8e4m3) (ws : Vec Ideal ReferenceIdeal.S9728 .f32)
    (hX : X = KernelIdeal.Own.X0 m c)
    (hw : w = (m ((c.tc : Thread KernelIdeal.nD KernelIdeal.τ).loc KernelIdeal.main_arg1) : Vec Ideal KernelIdeal.S9728x2432 .fp8e4m3))
    (hws : ws = (m ((c.tc : Thread KernelIdeal.nD KernelIdeal.τ).loc KernelIdeal.main_arg2) : Vec Ideal KernelIdeal.S9728 .f32)) :
    shapeCast ReferenceIdeal.S3x512x9728 (ReferenceIdeal.Gen.k0_pay1 (F := Ideal) (ReferenceIdeal.Gen.k0_pay3 X) (ReferenceIdeal.Gen.k0_pay4 X) w ws)
        ReferenceIdeal.Gen.shapeCasts_S1536x9728_S3x512x9728
      = shapeCast KernelIdeal.S3x512x9728 (KernelIdeal.Own.YARR m c) KernelIdeal.Gen.shapeCasts_S192x8x9728_S3x512x9728 := by
  subst hX hw hws
  funext z
  rw [eq_ix3 z]
  refine (batches_apply _ _ (z 0) (z 1) (z 2)).trans (Eq.trans ?_ (groups_apply _ _ (z 0) (z 1) (z 2)).symm)
  exact (ReferenceIdeal.Entries.y_apply _ _ _ _ _).trans (KernelIdeal.Own.YARR_apply m c _ _).symm

/-- The codes of the same rows. -/
theorem codes_eq (X : Vec Ideal KernelIdeal.S1536x2432 .bf16) :
    shapeCast ReferenceIdeal.S3x512x2432 (ReferenceIdeal.Gen.k0_pay4 (F := Ideal) X) ReferenceIdeal.Gen.shapeCasts_S1536x2432_S3x512x2432
      = shapeCast KernelIdeal.S3x512x2432 (KernelIdeal.Blocks.CODES X) KernelIdeal.Gen.shapeCasts_S1536x2432_S3x512x2432 := by
  funext z
  rw [eq_ix3 z]
  refine (batches_apply _ _ (z 0) (z 1) (z 2)).trans (Eq.trans ?_ (batches_apply _ _ (z 0) (z 1) (z 2)).symm)
  exact (ReferenceIdeal.Entries.code_apply X _ _).trans (KernelIdeal.Own.CODES_apply X _ _).symm

/-- The scales of the same rows. -/
theorem scales_eq (X : Vec Ideal KernelIdeal.S1536x2432 .bf16) :
    shapeCast ReferenceIdeal.S3x512x1 (ReferenceIdeal.Gen.k0_pay3 (F := Ideal) X) ReferenceIdeal.Gen.shapeCasts_S1536x1_S3x512x1
      = shapeCast KernelIdeal.S3x512x1 (KernelIdeal.Blocks.SCALE X) KernelIdeal.Gen.shapeCasts_S3x1x512_S3x512x1 := by
  funext z
  rw [eq_ix3 z, show z 2 = (0 : Fin 1) from Subsingleton.elim (α := Fin 1) _ _]
  refine (batches_apply _ _ (z 0) (z 1) 0).trans (Eq.trans ?_ (column_apply _ _ (z 0) (z 1)).symm)
  exact (ReferenceIdeal.Entries.scale_apply X _).trans (KernelIdeal.Own.SCALE_apply X _ _).symm

/-- From the same arguments both programs end with the same three results, and with their arguments as they were. -/
theorem algebraic : algebraic_KernelIdeal_ReferenceIdeal (hKernelIdeal := Cert.KernelIdeal.Gen.facts) (hReferenceIdeal := Cert.ReferenceIdeal.Gen.facts) := by
  pair_intro
  · run_from (Cert.KernelIdeal.Own.run_main (F := Ideal) m g)
    exact Cert.KernelIdeal.Gen.W_main_arg0 m _ c
  · run_from (Cert.ReferenceIdeal.Gen.run_main (F := Ideal) m' g')
    · refine (Cert.ReferenceIdeal.Own.tail_v2 m' c).trans (Eq.trans ?_ (Cert.KernelIdeal.Own.tail_v2 m c).symm)
      exact y_eq m c _ _ _ (rows_eq m m' c (hagree c).1) (hagree c).2.1 (hagree c).2.2
    · refine (Cert.ReferenceIdeal.Own.tail_v3 m' c).trans (Eq.trans ?_ (Cert.KernelIdeal.Own.tail_v3 m c).symm)
      rw [rows_eq m m' c (hagree c).1]
      exact codes_eq _
    · refine (Cert.ReferenceIdeal.Own.tail_v4 m' c).trans (Eq.trans ?_ (Cert.KernelIdeal.Own.tail_v4 m c).symm)
      rw [rows_eq m m' c (hagree c).1]
      exact scales_eq _
    · exact (Cert.ReferenceIdeal.Gen.W_main_arg0 m' _ c).trans (hagree c).1

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.IdealFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every run of the three programs ends without fault and leaves its arguments as they were; the ideal kernel is the kernel
    over the extended reals; and over them the kernel and the reference compute the same three results. -/
theorem claim : Cert.Claim := ⟨Cert.Kernel.Gen.facts, Cert.KernelIdeal.Gen.facts, Cert.ReferenceIdeal.Gen.facts,
  fun m ρ _ => Cert.Kernel.Own.frame m ρ,
  fun m ρ _ => Cert.KernelIdeal.Own.frame m ρ,
  fun m ρ _ => Cert.ReferenceIdeal.Gen.frame m ρ,
  trivial,
  Cert.Equal.algebraic⟩

end Cert.Proof

end
